-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S64x100000 : Shape := ⟨2, ![64, 100000]⟩
abbrev S8x100000 : Shape := ⟨2, ![8, 100000]⟩
abbrev S8x1024 : Shape := ⟨2, ![8, 1024]⟩
abbrev S8 : Shape := ⟨1, ![8]⟩
abbrev S8x1 : Shape := ⟨2, ![8, 1]⟩
abbrev S8x672 : Shape := ⟨2, ![8, 672]⟩

abbrev nBuf : Space → Nat
  | .hbm => 3
  | .vmem => 5
  | .smem => 0
  | _ => 0

abbrev bufTy : (tb : Table) → Fin (tcTables nBuf tb) → BufTy
  | .hbm, ⟨0, _⟩ => ⟨S64x2048, .i32⟩
  | .hbm, ⟨1, _⟩ => ⟨S64x100000, .f32⟩
  | .hbm, ⟨2, _⟩ => ⟨S64x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x2048 : Shape := ⟨2, ![64, 2048]⟩
abbrev S64x100000 : Shape := ⟨2, ![64, 100000]⟩
abbrev S_ : Shape := ⟨0, ![]⟩
abbrev S1 : Shape := ⟨1, ![1]⟩
abbrev S2 : Shape := ⟨1, ![2]⟩
abbrev S1x1 : Shape := ⟨2, ![1, 1]⟩
abbrev S64 : Shape := ⟨1, ![64]⟩
abbrev S64x1 : Shape := ⟨2, ![64, 1]⟩
abbrev S64x1x1 : Shape := ⟨3, ![64, 1, 1]⟩
abbrev S1x1x1 : Shape := ⟨3, ![1, 1, 1]⟩

abbrev nBuf : Space → Nat
  | .hbm => 327
  | .vmem => 0
  | .smem => 0
  | _ => 0

abbrev hbmTy0_0 (i : Nat) : BufTy := match i % 128 with
  | 0 => ⟨S64x2048, .i32⟩
  | 1 => ⟨S64x100000, .f32⟩
  | 2 => ⟨S_, .f32⟩
  | 3 => ⟨S64x100000, .f32⟩
  | 4 => ⟨S64x100000, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S64x100000, .i64⟩
  | 26 => ⟨S64x100000, .i64⟩
  | 27 => ⟨S_, .i64⟩
  | 28 => ⟨S64x100000, .i64⟩
  | 29 => ⟨S64x100000, .i64⟩
  | 30 => ⟨S_, .i64⟩
  | 31 => ⟨S64x100000, .i64⟩
  | 32 => ⟨S64x100000, .i64⟩
  | 33 => ⟨S64x100000, .i64⟩
  | 34 => ⟨S_, .i64⟩
  | 35 => ⟨S64x100000, .i64⟩
  | 36 => ⟨S64x100000, .i64⟩
  | 37 => ⟨S64x100000, .i32⟩
  | 38 => ⟨S64x100000, .i32⟩
  | 39 => ⟨S_, .i32⟩
  | 40 => ⟨S_, .i32⟩
  | 41 => ⟨S_, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S64x100000, .i32⟩
  | 54 => ⟨S64x100000, .i32⟩
  | 55 => ⟨S64x100000, .i32⟩
  | 56 => ⟨S_, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S64x100000, .i32⟩
  | 63 => ⟨S64x100000, .i32⟩
  | 64 => ⟨S64x100000, .i32⟩
  | 65 => ⟨S_, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S64x100000, .i32⟩
  | 72 => ⟨S64x100000, .i32⟩
  | 73 => ⟨S64x100000, .i32⟩
  | 74 => ⟨S_, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S_, .i32⟩
  | 87 => ⟨S64x100000, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S64x100000, .i32⟩
  | 97 => ⟨S64x100000, .i32⟩
  | 98 => ⟨S64x100000, .i32⟩
  | 99 => ⟨S_, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S64x100000, .i32⟩
  | 106 => ⟨S64x100000, .i32⟩
  | 107 => ⟨S64x100000, .i32⟩
  | 108 => ⟨S_, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S64x100000, .i32⟩
  | 115 => ⟨S64x100000, .i32⟩
  | 116 => ⟨S64x100000, .i32⟩
  | 117 => ⟨S_, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S64x2048, .i32⟩

abbrev hbmTy0_1 (i : Nat) : BufTy := match i % 128 with
  | 0 => ⟨S64x100000, .i32⟩
  | 1 => ⟨S_, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S64x100000, .i32⟩
  | 12 => ⟨S64x100000, .i32⟩
  | 13 => ⟨S64x100000, .i32⟩
  | 14 => ⟨S_, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S64x100000, .i32⟩
  | 21 => ⟨S64x100000, .i32⟩
  | 22 => ⟨S64x100000, .i32⟩
  | 23 => ⟨S_, .i32⟩
  | 24 => ⟨S64x100000, .i32⟩
  | 25 => ⟨S64x100000, .i32⟩
  | 26 => ⟨S_, .i32⟩
  | 27 => ⟨S64x100000, .i32⟩
  | 28 => ⟨S64x100000, .i32⟩
  | 29 => ⟨S64x100000, .i32⟩
  | 30 => ⟨S64x100000, .i32⟩
  | 31 => ⟨S64x100000, .i32⟩
  | 32 => ⟨S_, .i32⟩
  | 33 => ⟨S64x100000, .i32⟩
  | 34 => ⟨S64x100000, .i32⟩
  | 35 => ⟨S_, .i32⟩
  | 36 => ⟨S64x100000, .i32⟩
  | 37 => ⟨S64x100000, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S64x100000, .i32⟩
  | 44 => ⟨S_, .i32⟩
  | 45 => ⟨S64x100000, .i32⟩
  | 46 => ⟨S64x100000, .i32⟩
  | 47 => ⟨S64x100000, .i32⟩
  | 48 => ⟨S_, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S64x100000, .i32⟩
  | 55 => ⟨S64x100000, .i32⟩
  | 56 => ⟨S64x100000, .i32⟩
  | 57 => ⟨S_, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S64x100000, .i32⟩
  | 64 => ⟨S64x100000, .i32⟩
  | 65 => ⟨S64x100000, .i32⟩
  | 66 => ⟨S_, .i32⟩
  | 67 => ⟨S64x100000, .i32⟩
  | 68 => ⟨S64x100000, .i32⟩
  | 69 => ⟨S_, .i32⟩
  | 70 => ⟨S64x100000, .i32⟩
  | 71 => ⟨S64x100000, .i32⟩
  | 72 => ⟨S64x100000, .i32⟩
  | 73 => ⟨S64x100000, .i32⟩
  | 74 => ⟨S64x100000, .i32⟩
  | 75 => ⟨S_, .i32⟩
  | 76 => ⟨S64x100000, .i32⟩
  | 77 => ⟨S64x100000, .i32⟩
  | 78 => ⟨S_, .i32⟩
  | 79 => ⟨S64x100000, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S_, .i32⟩
  | 88 => ⟨S64x100000, .i32⟩
  | 89 => ⟨S64x100000, .i32⟩
  | 90 => ⟨S64x100000, .i32⟩
  | 91 => ⟨S_, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S64x100000, .i32⟩
  | 98 => ⟨S64x100000, .i32⟩
  | 99 => ⟨S64x100000, .i32⟩
  | 100 => ⟨S_, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S64x100000, .i32⟩
  | 107 => ⟨S64x100000, .i32⟩
  | 108 => ⟨S64x100000, .i32⟩
  | 109 => ⟨S_, .i32⟩
  | 110 => ⟨S64x100000, .i32⟩
  | 111 => ⟨S64x100000, .i32⟩
  | 112 => ⟨S_, .i32⟩
  | 113 => ⟨S64x100000, .i32⟩
  | 114 => ⟨S64x100000, .i32⟩
  | 115 => ⟨S64x100000, .i32⟩
  | 116 => ⟨S64x100000, .i32⟩
  | 117 => ⟨S64x100000, .i32⟩
  | 118 => ⟨S_, .i32⟩
  | 119 => ⟨S64x100000, .i32⟩
  | 120 => ⟨S64x100000, .i32⟩
  | 121 => ⟨S_, .i32⟩
  | 122 => ⟨S64x100000, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S64x2048, .i32⟩

abbrev hbmTy0_2 (i : Nat) : BufTy := match i % 128 with
  | 0 => ⟨S64x100000, .i32⟩
  | 1 => ⟨S64x100000, .i32⟩
  | 2 => ⟨S_, .i32⟩
  | 3 => ⟨S64x100000, .i32⟩
  | 4 => ⟨S64x100000, .i32⟩
  | 5 => ⟨S64x100000, .i32⟩
  | 6 => ⟨S_, .i32⟩
  | 7 => ⟨S64x100000, .i32⟩
  | 8 => ⟨S64x100000, .i32⟩
  | 9 => ⟨S_, .i32⟩
  | 10 => ⟨S64x100000, .i32⟩
  | 11 => ⟨S64x100000, .i32⟩
  | 12 => ⟨S64x100000, .f32⟩
  | 13 => ⟨S_, .f32⟩
  | 14 => ⟨S64x100000, .f32⟩
  | 15 => ⟨S64x100000, .f32⟩
  | 16 => ⟨S1x1, .f32⟩
  | 17 => ⟨S64x100000, .f32⟩
  | 18 => ⟨S64x100000, .f32⟩
  | 19 => ⟨S64x100000, .f32⟩
  | 20 => ⟨S64x100000, .f32⟩
  | 21 => ⟨S64x100000, .f32⟩
  | 22 => ⟨S64x100000, .f32⟩
  | 23 => ⟨S_, .f32⟩
  | 24 => ⟨S64x100000, .f32⟩
  | 25 => ⟨S64x100000, .f32⟩
  | 26 => ⟨S_, .f32⟩
  | 27 => ⟨S64x100000, .f32⟩
  | 28 => ⟨S64x100000, .f32⟩
  | 29 => ⟨S_, .f32⟩
  | 30 => ⟨S64x100000, .f32⟩
  | 31 => ⟨S64x100000, .f32⟩
  | 32 => ⟨S64x100000, .f32⟩
  | 33 => ⟨S64x100000, .f32⟩
  | 34 => ⟨S64x100000, .f32⟩
  | 35 => ⟨S64x100000, .f32⟩
  | 36 => ⟨S64x100000, .f32⟩
  | 37 => ⟨S64x100000, .i32⟩
  | 38 => ⟨S_, .f32⟩
  | 39 => ⟨S_, .i32⟩
  | 40 => ⟨S64, .f32⟩
  | 41 => ⟨S64, .i32⟩
  | 42 => ⟨S64x1, .i32⟩
  | 43 => ⟨S_, .i32⟩
  | 44 => ⟨S64x1, .i32⟩
  | 45 => ⟨S64x1, .i1⟩
  | 46 => ⟨S_, .i32⟩
  | 47 => ⟨S64x1, .i32⟩
  | 48 => ⟨S64x1, .i32⟩
  | 49 => ⟨S64x1, .i32⟩
  | 50 => ⟨S64x1x1, .i32⟩
  | 51 => ⟨S1, .i32⟩
  | 52 => ⟨S_, .i32⟩
  | 53 => ⟨S64x1x1, .i32⟩
  | 54 => ⟨S64x1x1, .i1⟩
  | 55 => ⟨S1x1x1, .i32⟩
  | 56 => ⟨S64x1x1, .i32⟩
  | 57 => ⟨S64x1x1, .i1⟩
  | 58 => ⟨S64x1x1, .i1⟩
  | 59 => ⟨S_, .i1⟩
  | 60 => ⟨S64x1, .i1⟩
  | 61 => ⟨S64x1, .f32⟩
  | 62 => ⟨S_, .f32⟩
  | 63 => ⟨S64x1, .f32⟩
  | 64 => ⟨S64x1, .f32⟩
  | 65 => ⟨S64x100000, .f32⟩
  | 66 => ⟨S64x100000, .i1⟩
  | 67 => ⟨S_, .f32⟩
  | 68 => ⟨S_, .f32⟩
  | 69 => ⟨S64x100000, .f32⟩
  | 70 => ⟨S64x100000, .f32⟩
  | _ => ⟨S64x2048, .i32⟩

abbrev hbmTy (i : Nat) : BufTy := match i / 128 with
  | 0 => hbmTy0_0 i
  | 1 => hbmTy0_1 i
  | 2 => hbmTy0_2 i
  | _ => ⟨S64x2048, .i32⟩

abbrev bufTy : (tb : Table) → Fin (tcTables nBuf tb) → BufTy
  | .hbm, ⟨i, _⟩ => hbmTy i
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v9 : Ref sig .tc := ⟨.hbm, 278, rfl⟩
abbrev main_cst_4 : Ref sig .tc := ⟨.hbm, 279, rfl⟩
abbrev main_v10 : Ref sig .tc := ⟨.hbm, 280, rfl⟩
abbrev main_v11 : Ref sig .tc := ⟨.hbm, 281, rfl⟩
abbrev main_cst_5 : Ref sig .tc := ⟨.hbm, 282, rfl⟩
abbrev main_v12 : Ref sig .tc := ⟨.hbm, 283, rfl⟩
abbrev main_v13 : Ref sig .tc := ⟨.hbm, 284, rfl⟩
abbrev main_cst_6 : Ref sig .tc := ⟨.hbm, 285, rfl⟩
abbrev main_v14 : Ref sig .tc := ⟨.hbm, 286, rfl⟩
abbrev main_v15 : Ref sig .tc := ⟨.hbm, 287, rfl⟩
abbrev main_v16 : Ref sig .tc := ⟨.hbm, 288, rfl⟩
abbrev main_v17 : Ref sig .tc := ⟨.hbm, 289, rfl⟩
abbrev main_v18 : Ref sig .tc := ⟨.hbm, 290, rfl⟩
abbrev main_v19 : Ref sig .tc := ⟨.hbm, 291, rfl⟩
abbrev main_v20 : Ref sig .tc := ⟨.hbm, 292, rfl⟩
abbrev main_call1_v0 : Ref sig .tc := ⟨.hbm, 293, rfl⟩
abbrev main_call1_cst : Ref sig .tc := ⟨.hbm, 294, rfl⟩
abbrev main_call1_c : Ref sig .tc := ⟨.hbm, 295, rfl⟩
abbrev main_call1_v1_0 : Ref sig .tc := ⟨.hbm, 296, rfl⟩
abbrev main_v21 : Ref sig .tc := ⟨.hbm, 297, rfl⟩
abbrev main_v22 : Ref sig .tc := ⟨.hbm, 298, rfl⟩
abbrev main_call2_c : Ref sig .tc := ⟨.hbm, 299, rfl⟩
abbrev main_call2_v0 : Ref sig .tc := ⟨.hbm, 300, rfl⟩
abbrev main_call2_v1 : Ref sig .tc := ⟨.hbm, 301, rfl⟩
abbrev main_call2_c_0 : Ref sig .tc := ⟨.hbm, 302, rfl⟩
abbrev main_call2_v2 : Ref sig .tc := ⟨.hbm, 303, rfl⟩
abbrev main_call2_v3 : Ref sig .tc := ⟨.hbm, 304, rfl⟩
abbrev main_call2_v4 : Ref sig .tc := ⟨.hbm, 305, rfl⟩
abbrev main_call2_v5 : Ref sig .tc := ⟨.hbm, 306, rfl⟩
abbrev main_call2_c_1 : Ref sig .tc := ⟨.hbm, 307, rfl⟩
abbrev main_call2_c_2 : Ref sig .tc := ⟨.hbm, 308, rfl⟩
abbrev main_call2_v6 : Ref sig .tc := ⟨.hbm, 309, rfl⟩
abbrev main_call2_v7 : Ref sig .tc := ⟨.hbm, 310, rfl⟩
abbrev main_call2_v8 : Ref sig .tc := ⟨.hbm, 311, rfl⟩
abbrev main_call2_v9 : Ref sig .tc := ⟨.hbm, 312, rfl⟩
abbrev main_call2_v10 : Ref sig .tc := ⟨.hbm, 313, rfl⟩
abbrev main_call2_v11 : Ref sig .tc := ⟨.hbm, 314, rfl⟩
abbrev main_call2_c_3 : Ref sig .tc := ⟨.hbm, 315, rfl⟩
abbrev main_call2_v12 : Ref sig .tc := ⟨.hbm, 316, rfl⟩
abbrev main_call2_v13 : Ref sig .tc := ⟨.hbm, 317, rfl⟩
abbrev main_call2_cst : Ref sig .tc := ⟨.hbm, 318, rfl⟩
abbrev main_call2_v14 : Ref sig .tc := ⟨.hbm, 319, rfl⟩
abbrev main_v23 : Ref sig .tc := ⟨.hbm, 320, rfl⟩
abbrev main_v24 : Ref sig .tc := ⟨.hbm, 321, rfl⟩
abbrev main_v25 : Ref sig .tc := ⟨.hbm, 322, rfl⟩
abbrev main_cst_7 : Ref sig .tc := ⟨.hbm, 323, rfl⟩
abbrev main_call3_v0 : Ref sig .tc := ⟨.hbm, 324, rfl⟩
abbrev main_call3_v1 : Ref sig .tc := ⟨.hbm, 325, rfl⟩
abbrev main_v26 : Ref sig .tc := ⟨.hbm, 326, rfl⟩

abbrev nD : Nat := 1
abbrev τ : Topo := Topo.v7x

variable {F : FTy → Type} [FloatOps F]
-- ==== Proof.Chunk.lean ====
/-
  What one grid step of the kernel computes, stated once for a column chunk of any width.

  The kernel walks the 100000 columns of its 8 rows in 97 chunks of 1024 columns and one of 672. In each
  of its four passes every chunk does the same thing; this module names those things (`noisy`, `chunkMax`,
  `chunkIdx`, `chunkSum`, `chunkOut`), the folds over the chunks (`rowMax`, `rowIdx`, `rowThr`), and the two
  lists of stores (`zPieces`, `outPieces`), as functions of the chunks loaded.
-/
module

public import proofs.«01_k».proof.Proof.Gen.KernelIdeal.Frame
public import Idealize.ShloMosaic.Lib.Pipeline.Value

@[expose] public section

noncomputable section

namespace Cert.KernelIdeal.Chunk

open Idealize.ShloMosaic Idealize.ShloMosaic.TcCoe Cert.KernelIdeal Cert.KernelIdeal.Gen

variable {F : FTy → Type} [FloatOps F]

/-- Eight rows of `w` columns. -/
abbrev SW (w : ℕ) : Shape := ⟨2, ![8, w]⟩

/-- The shape facts the operations on a chunk of width `w` take. -/
structure Fit (w : ℕ) : Prop where
  iota0 : (SW w).Iotas .tc 32 [0]
  iota1 : (SW w).Iotas .tc 32 [1]
  red : (SW w).Reduces [1] S8
  bc : S8x1.Broadcasts (SW w)
  self : (SW w).ShapeCasts (SW w)

/-- The full chunks fit, -/
theorem fit1024 : Fit 1024 := ⟨iota_S8x1024_d0_w32, iota_S8x1024_d1_w32, reduces_S8x1024_S8, broadcasts_S8x1_S8x1024, shapeCasts_S8x1024_S8x1024⟩
/-- and so does the last. -/
theorem fit672 : Fit 672 := ⟨iota_S8x672_d0_w32, iota_S8x672_d1_w32, reduces_S8x672_S8, broadcasts_S8x1_S8x672, shapeCasts_S8x672_S8x672⟩

/-! ## The random bits -/

/-- One round of the cipher on vectors: rotate left by `r` (`r' = 32 - r`). -/
def vrnd {s : Shape} (r r' : BitVec 32) (p : IVec s 32 × IVec s 32) : IVec s 32 × IVec s 32 :=
  (addi p.1 p.2, xori (addi p.1 p.2) (ori (shli p.2 (broadcast s r)) (shrui p.2 (broadcast s r'))))

/-- One key injection on vectors. -/
def vinj {s : Shape} (a b : BitVec 32) (p : IVec s 32 × IVec s 32) : IVec s 32 × IVec s 32 :=
  (addi p.1 (broadcast s a), addi p.2 (broadcast s b))

/-- The four rounds of the odd groups, -/
def vodd {s : Shape} (p : IVec s 32 × IVec s 32) : IVec s 32 × IVec s 32 :=
  vrnd 6 26 (vrnd 26 6 (vrnd 15 17 (vrnd 13 19 p)))
/-- and of the even ones. -/
def veven {s : Shape} (p : IVec s 32 × IVec s 32) : IVec s 32 × IVec s 32 :=
  vrnd 24 8 (vrnd 16 16 (vrnd 29 3 (vrnd 17 15 p)))

/-- The cipher with the key (0, 42), its schedule's sums folded into constants. -/
def vcipher {s : Shape} (p : IVec s 32 × IVec s 32) : IVec s 32 × IVec s 32 :=
  vinj 466689008 5 (vodd (vinj 42 466689012 (veven (vinj 0 45 (vodd (vinj 466689008 2 (veven (vinj 42 466689009 (vodd p)))))))))

/-- The counter block of a chunk that starts at column `lo`: a high word of zero and the low word
    `v1 + row·100000 + (column + lo)`, with the key added. -/
def counter (w : ℕ) (h : Fit w) (v1 lo : BitVec 32) : IVec (SW w) 32 × IVec (SW w) 32 :=
  (addi (broadcast (SW w) 0) (broadcast (SW w) 0),
    addi (addi (addi (broadcast (SW w) v1) (muli (iota .tc (SW w) 32 [0] h.iota0) (broadcast (SW w) 100000)))
      (addi (iota .tc (SW w) 32 [1] h.iota1) (broadcast (SW w) lo))) (broadcast (SW w) 42))

/-- The chunk's random words. -/
def bits (w : ℕ) (h : Fit w) (v1 lo : BitVec 32) : IVec (SW w) 32 :=
  xori (vcipher (counter w h v1 lo)).1 (vcipher (counter w h v1 lo)).2

/-- A float constant spread over a shape. -/
abbrev splat (s : Shape) (b : BitVec 32) : FVec F s .f32 := broadcast s (Scalar.ofBits .f32 b)

/-- Gumbel noise from random words: the mantissa made a uniform `f` in [0, 1), then `-log (-log (max tiny (f·1 + tiny)))`. -/
def noise (s : Shape) (b : IVec s 32) : FVec F s .f32 :=
  subf (splat s 0x00000000#32) (log (subf (splat s 0x00000000#32) (log (maximumf (splat s 0x00800000#32)
    (addf (mulf (subf (bitcastToFloat .f32 (ori (shrui b (broadcast s 9)) (broadcast s 1065353216))) (splat s 0x3F800000#32))
      (splat s 0x3F800000#32)) (splat s 0x00800000#32))))))

/-! ## What each pass does to a chunk -/

/-- Pass 1: the scores of the chunk with their noise. -/
def noisy (w : ℕ) (h : Fit w) (v1 lo : BitVec 32) (x : FVec F (SW w) .f32) : FVec F (SW w) .f32 :=
  addf x (noise (SW w) (bits w h v1 lo))

/-- and their maximum, row by row. -/
def chunkMax (w : ℕ) (h : Fit w) (z : FVec F (SW w) .f32) : FVec F S8x1 .f32 :=
  shapeCast S8x1 (multiReduction .maximumf [1] S8 z 0xFF800000#32 h.red (.inl rfl) rfl) shapeCasts_S8_S8x1

/-- The column numbers of a chunk that starts at column `lo`. -/
def cols (w : ℕ) (h : Fit w) (lo : BitVec 32) : IVec (SW w) 32 := addi (iota .tc (SW w) 32 [1] h.iota1) (broadcast (SW w) lo)

/-- Pass 2: the least column of the chunk whose noisy score is the row's maximum `m`, or a number no smaller than 100000. -/
def chunkIdx (w : ℕ) (h : Fit w) (lo : BitVec 32) (m : FVec F S8x1 .f32) (z : FVec F (SW w) .f32) : IVec S8x1 32 :=
  shapeCast S8x1 (multiReductionI .minsi [1] S8 (select (cmpf .oeq z (broadcastTo (SW w) m h.bc)) (cols w h lo)
    (broadcast (SW w) 100000)) 2147483647#32 h.red rfl) shapeCasts_S8_S8x1

/-- Pass 3: the score in column `j` of the row if the chunk has that column, 0 if not. -/
def chunkSum (w : ℕ) (h : Fit w) (lo : BitVec 32) (j : IVec S8x1 32) (x : FVec F (SW w) .f32) : FVec F S8x1 .f32 :=
  shapeCast S8x1 (multiReduction .add [1] S8 (select (cmpi .eq (cols w h lo) (broadcastTo (SW w) j h.bc)) x
    (splat (SW w) 0x00000000#32)) 0x00000000#32 h.red (.inl rfl) rfl) shapeCasts_S8_S8x1

/-- Pass 4: the scores below the threshold masked out. -/
def chunkOut (w : ℕ) (h : Fit w) (t : FVec F S8x1 .f32) (x : FVec F (SW w) .f32) : FVec F (SW w) .f32 :=
  select (cmpf .olt x (broadcastTo (SW w) t h.bc)) (splat (SW w) 0xFF800000#32) x

/-! ## The folds over the chunks -/

/-- The first column of full chunk `k`. -/
abbrev lo (k : ℕ) : BitVec 32 := BitVec.ofNat 32 (1024 * k)

/-- A fold over the full chunks 0 … `n`, first chunk first. -/
def fold {α : Type} (f : ∀ k, k < 97 → α) (op : α → α → α) : ∀ n, n < 97 → α :=
  Nat.rec (fun h => f 0 h) (fun n ih h => op (ih (Nat.lt_of_succ_lt h)) (f (n + 1) h))

/-- The full chunks' stores, last chunk first. -/
def stores {α : Type} (f : ∀ k, k < 97 → α) : ∀ n, n ≤ 97 → List α :=
  Nat.rec (fun _ => []) (fun n ih h => f n h :: ih (Nat.le_of_succ_le h))

/-- Full chunk `k` lies in the block. -/
theorem inb (k : ℕ) (h : k < 97) (a : Fin 2) : (![0, 1024 * k] : Fin 2 → ℕ) a + S8x1024.size a ≤ S8x100000.size a := by
  match a with
  | ⟨0, _⟩ => show 0 + 8 ≤ 8; omega
  | ⟨1, _⟩ => show 1024 * k + 1024 ≤ 100000; omega

/-- The place of full chunk `k`, -/
abbrev box (k : ℕ) (h : k < 97) : Rect S8x100000 := Rect.unit ![0, 1024 * k] S8x1024.size (inb k h)
/-- and of the last one. -/
abbrev boxL : Rect S8x100000 := Rect.unit ![0, 99328] S8x672.size inb_S8x100000_S8x672_0_99328

section
variable (v1 : BitVec 32) (x : ∀ k, k < 97 → FVec F (SW 1024) .f32) (xL : FVec F (SW 672) .f32)

/-- The noisy scores of full chunk `k`, -/
def zc (k : ℕ) (h : k < 97) : FVec F (SW 1024) .f32 := noisy 1024 fit1024 v1 (lo k) (x k h)
/-- and of the last. -/
def zL : FVec F (SW 672) .f32 := noisy 672 fit672 v1 99328 xL

/-- Each row's maximal noisy score. -/
def rowMax : FVec F S8x1 .f32 :=
  maximumf (fold (fun k h => chunkMax 1024 fit1024 (zc v1 x k h)) maximumf 96 (by decide)) (chunkMax 672 fit672 (zL v1 xL))

/-- The stores of pass 1. -/
def zPieces : List (View.Piece (Elt F) S8x100000 .f32) :=
  ⟨boxL, shapeCast S8x672 (zL v1 xL) fit672.self⟩
    :: stores (fun k h => ⟨box k h, shapeCast S8x1024 (zc v1 x k h) fit1024.self⟩) 97 le_rfl
end

/-- Each row's least column attaining its maximum `m`, over the noisy scores read back. -/
def rowIdx (m : FVec F S8x1 .f32) (z : ∀ k, k < 97 → FVec F (SW 1024) .f32) (zL : FVec F (SW 672) .f32) : IVec S8x1 32 :=
  minsi (fold (fun k h => chunkIdx 1024 fit1024 (lo k) m (z k h)) minsi 96 (by decide)) (chunkIdx 672 fit672 99328 m zL)

/-- Each row's score in column `j`. -/
def rowThr (j : IVec S8x1 32) (x : ∀ k, k < 97 → FVec F (SW 1024) .f32) (xL : FVec F (SW 672) .f32) : FVec F S8x1 .f32 :=
  addf (fold (fun k h => chunkSum 1024 fit1024 (lo k) j (x k h)) addf 96 (by decide)) (chunkSum 672 fit672 99328 j xL)

/-- The stores of pass 4. -/
def outPieces (t : FVec F S8x1 .f32) (x : ∀ k, k < 97 → FVec F (SW 1024) .f32) (xL : FVec F (SW 672) .f32) :
    List (View.Piece (Elt F) S8x100000 .f32) :=
  ⟨boxL, chunkOut 672 fit672 t xL⟩ :: stores (fun k h => ⟨box k h, chunkOut 1024 fit1024 t (x k h)⟩) 97 le_rfl

end Cert.KernelIdeal.Chunk

end
-- ==== Proof.Words.lean ====
/-
  The kernel's run read in the vocabulary of `Chunk`: the stores its one grid step ends with are those of
  the four passes over the chunks loaded. Each equation holds by unfolding.
-/
module

public import proofs.«01_k».proof.Proof.Chunk
public import Idealize.ShloMosaic.Lib.Tactic

@[expose] public section

noncomputable section

namespace Cert.KernelIdeal.Words

open Idealize.ShloMosaic Idealize.ShloMosaic.TcCoe Cert.KernelIdeal Cert.KernelIdeal.Gen Cert.KernelIdeal.Chunk

variable {F : FTy → Type} [FloatOps F]

/-- The number of the first entry of grid step `i`'s rows, counted row by row over the whole array. -/
abbrev base (i : grid0.Coords) : BitVec 32 := Scalar.muli (Scalar.muli (BitVec.ofNat 32 (i 0).val) 8#32) 100000#32

section
variable (c : Dev nD) (i : grid0.Coords) (arg1 : Memref sig .tc .vmem S8x100000 .f32) (harg1 : arg1.IsWhole)
  (arg3 : Memref sig .tc .vmem S8x100000 .f32) (x0 : Vec F S8x100000 .f32)

/-- Full chunk `k` of the scores as loaded, -/
def ldx (k : ℕ) (h : k < 97) : FVec F (SW 1024) .f32 :=
  View.readAt (Elt F) arg1.view (box k h).toLoadRect (harg1.unread x0)
/-- and the last. -/
def ldxL : FVec F (SW 672) .f32 := View.readAt (Elt F) arg1.view boxL.toLoadRect (harg1.unread x0)

/-- The stores of pass 1 are the noisy chunks. -/
theorem z_eq : kernelRun0_A.sl.HS0_98 c i arg1 harg1 x0 = zPieces (base i) (ldx arg1 harg1 x0) (ldxL arg1 harg1 x0) := by
  sl_kernel_rfl

/-- The maximum carried out of pass 1. -/
theorem max_eq : kernelRun0_A.sl.r_421 c i arg1 harg1 x0 = rowMax (base i) (ldx arg1 harg1 x0) (ldxL arg1 harg1 x0) := by
  sl_kernel_rfl

/-- Full chunk `k` of the noisy scores as read back, -/
def ldz (k : ℕ) (h : k < 97) : FVec F (SW 1024) .f32 :=
  arg3.view.readCov (kernelRun0_A.sl.HS0_98 c i arg1 harg1 x0) (box k h).toLoadRect
/-- and the last. -/
def ldzL : FVec F (SW 672) .f32 := arg3.view.readCov (kernelRun0_A.sl.HS0_98 c i arg1 harg1 x0) boxL.toLoadRect

/-- The index carried out of pass 2. -/
theorem idx_eq : kernelRun0_A.sl.r_461 c i arg1 harg1 arg3 x0
    = rowIdx (kernelRun0_A.sl.r_421 c i arg1 harg1 x0) (ldz c i arg1 harg1 arg3 x0) (ldzL c i arg1 harg1 arg3 x0) := by
  sl_kernel_rfl

/-- The threshold carried out of pass 3. -/
theorem thr_eq : kernelRun0_A.sl.r_502 c i arg1 harg1 arg3 x0
    = rowThr (kernelRun0_A.sl.r_461 c i arg1 harg1 arg3 x0) (ldx arg1 harg1 x0) (ldxL arg1 harg1 x0) := by
  sl_kernel_rfl

/-- The stores of pass 4 are the masked chunks. -/
theorem out_eq (arg2 : Memref sig .tc .vmem S8x100000 .f32) (harg2 : arg2.IsWhole) (harg3 : arg3.IsWhole) :
    (kernelRun0_A c i arg1 harg1 arg2 harg2 arg3 harg3 x0).1
      = outPieces (kernelRun0_A.sl.r_502 c i arg1 harg1 arg3 x0) (ldx arg1 harg1 x0) (ldxL arg1 harg1 x0) := by
  sl_kernel_rfl
end

end Cert.KernelIdeal.Words

end
-- ==== Proof.Best.lean ====
/-
  Choosing folds.

  A maximum, a minimum and an argmax fold an operation that returns one of its two operands, one at least as
  good as both. Such a fold returns one of its inputs, at least as good as all of them, in whatever order it runs.
-/
module

public import proofs.«01_k».proof.Proof.Chunk
public import Idealize.ShloMosaic.PureOps.Reduce

@[expose] public section

namespace Cert.Best

open Idealize.ShloMosaic

/-- `f` returns one of its operands, one that is as good as both (`le a b`: `a` is as good as `b`), for a preorder `le`. -/
structure Chooses {α : Type} (le : α → α → Prop) (f : α → α → α) : Prop where
  refl : ∀ a, le a a
  trans : ∀ a b c, le a b → le b c → le a c
  mem : ∀ a b, f a b = a ∨ f a b = b
  left : ∀ a b, le (f a b) a
  right : ∀ a b, le (f a b) b

variable {α : Type} {le : α → α → Prop} {f : α → α → α}

/-- A fold over a list. -/
theorem foldl_best (hf : Chooses le f) : ∀ (l : List α) (a : α),
    (l.foldl f a = a ∨ l.foldl f a ∈ l) ∧ le (l.foldl f a) a ∧ ∀ b ∈ l, le (l.foldl f a) b
  | [], a => ⟨.inl rfl, hf.refl a, fun _ h => nomatch h⟩
  | x :: l, a => by
    obtain ⟨hm, ha, hl⟩ := foldl_best hf l (f a x)
    rw [List.foldl_cons]
    refine ⟨?_, hf.trans _ _ _ ha (hf.left a x), fun b hb => ?_⟩
    · rcases hm with h | h
      · rcases hf.mem a x with e | e
        · exact .inl (h.trans e)
        · exact .inr (by rw [h, e]; exact List.mem_cons_self)
      · exact .inr (List.mem_cons_of_mem _ h)
    · rcases List.mem_cons.mp hb with rfl | hb
      · exact hf.trans _ _ _ ha (hf.right a b)
      · exact hl b hb

/-- A reduction of an array along some axes. -/
theorem reduceFold_best (hf : Chooses le f) {s t : Shape} {axes : List (Fin s.rank)} (h : s.Reduces axes t) (init : α)
    (x : s.Idx → α) (j : t.Idx) :
    (reduceFold h f init x j = init ∨ ∃ i, h.drop i = j ∧ reduceFold h f init x j = x i)
      ∧ le (reduceFold h f init x j) init ∧ ∀ i, h.drop i = j → le (reduceFold h f init x j) (x i) := by
  have e : reduceFold h f init x j
      = ((((List.finRange s.numel).map s.rowMajor.symm).filter fun i => h.drop i = j).map x).foldl f init := by
    rw [reduceFold_eq_foldl, List.foldl_map]
  obtain ⟨hm, ha, hl⟩ := foldl_best hf ((((List.finRange s.numel).map s.rowMajor.symm).filter fun i => h.drop i = j).map x) init
  rw [← e] at hm ha hl
  refine ⟨hm.imp id fun hm => ?_, ha, fun i hi => hl _ ?_⟩
  · obtain ⟨i, hi, e'⟩ := List.mem_map.mp hm
    exact ⟨i, by simpa using (List.mem_filter.mp hi).2, e'.symm⟩
  · refine List.mem_map.mpr ⟨i, List.mem_filter.mpr ⟨List.mem_map.mpr ⟨s.rowMajor i, List.mem_finRange _, by simp⟩, by simpa using hi⟩, rfl⟩

/-- A reduction of two arrays together. -/
theorem reduce2_best {β γ : Type} {le : γ × β → γ × β → Prop} {f : γ × β → γ × β → γ × β} (hf : Chooses le f)
    {s t u : Shape} {axes : List (Fin s.rank)} (x : s.Idx → γ) (y : s.Idx → β) (ix : u.Idx → γ) (iy : u.Idx → β)
    (h : s.ReducesTo axes t) (hu : 0 < u.numel) (j : t.Idx) :
    (Host.reduce2 f x y ix iy h hu j = (ix (Shape.Idx.first hu), iy (Shape.Idx.first hu))
        ∨ ∃ i, h.drop i = j ∧ Host.reduce2 f x y ix iy h hu j = (x i, y i))
      ∧ le (Host.reduce2 f x y ix iy h hu j) (ix (Shape.Idx.first hu), iy (Shape.Idx.first hu))
      ∧ ∀ i, h.drop i = j → le (Host.reduce2 f x y ix iy h hu j) (x i, y i) := by
  rw [Host.reduce2_eq_foldl_fiber]
  obtain ⟨hm, ha, hl⟩ := foldl_best hf (Host.argReduceFiber x y h j) (ix (Shape.Idx.first hu), iy (Shape.Idx.first hu))
  refine ⟨hm.imp id fun hm => ?_, ha, fun i hi => hl _ ?_⟩
  · obtain ⟨n, hn, e'⟩ := List.mem_map.mp hm
    exact ⟨s.rowMajor.symm n, by simpa using (List.mem_filter.mp hn).2, e'.symm⟩
  · exact List.mem_map.mpr ⟨s.rowMajor i, List.mem_filter.mpr ⟨List.mem_finRange _, by simpa using hi⟩, by simp⟩

open Cert.KernelIdeal.Chunk

/-- A fold over the kernel's chunks. -/
theorem fold_best (hf : Chooses le f) (g : ∀ k, k < 97 → α) : ∀ (n : ℕ) (hn : n < 97),
    (∃ k hk, fold g f n hn = g k hk) ∧ ∀ k hk, k ≤ n → le (fold g f n hn) (g k hk)
  | 0, hn => ⟨⟨0, hn, rfl⟩, fun k hk h => by obtain rfl : k = 0 := by omega
                                             exact hf.refl _⟩
  | n + 1, hn => by
    obtain ⟨⟨k, hk, e⟩, hl⟩ := fold_best hf g n (Nat.lt_of_succ_lt hn)
    have e1 : fold g f (n + 1) hn = f (fold g f n (Nat.lt_of_succ_lt hn)) (g (n + 1) hn) := rfl
    rw [e1]
    refine ⟨?_, fun k' hk' h => ?_⟩
    · rcases hf.mem (fold g f n (Nat.lt_of_succ_lt hn)) (g (n + 1) hn) with h | h
      · exact ⟨k, hk, h.trans e⟩
      · exact ⟨_, hn, h⟩
    · rcases Nat.lt_or_ge k' (n + 1) with h' | h'
      · exact hf.trans _ _ _ (hf.left _ _) (hl k' hk' (by omega))
      · obtain rfl : k' = n + 1 := by omega
        exact hf.right _ _

/-- A fold of arrays by an operation that works entry by entry, at an entry. -/
theorem fold_apply {ι β : Type} {op : (ι → β) → (ι → β) → ι → β} {op' : β → β → β} (h : ∀ a b i, op a b i = op' (a i) (b i))
    (g : ∀ k, k < 97 → ι → β) (i : ι) : ∀ (n : ℕ) (hn : n < 97), fold g op n hn i = fold (fun k hk => g k hk i) op' n hn
  | 0, _ => rfl
  | n + 1, hn => (h _ _ i).trans (congrArg (op' · (g (n + 1) hn i)) (fold_apply h g i n (Nat.lt_of_succ_lt hn)))

/-- A sum over the chunks of which one is not zero. -/
theorem fold_add_single {M : Type} [AddZeroClass M] (g : ∀ k, k < 97 → M) (k₀ : ℕ) (hg : ∀ k hk, k ≠ k₀ → g k hk = 0) :
    ∀ (n : ℕ) (hn : n < 97), fold g (· + ·) n hn = if h : k₀ ≤ n then g k₀ (by omega) else 0
  | 0, hn => by
    rcases Nat.eq_zero_or_pos k₀ with rfl | h
    · rfl
    · rw [dif_neg (by omega)]; exact hg 0 hn (by omega)
  | n + 1, hn => by
    have e1 : fold g (· + ·) (n + 1) hn = fold g (· + ·) n (Nat.lt_of_succ_lt hn) + g (n + 1) hn := rfl
    rw [e1, fold_add_single g k₀ hg n]
    rcases Nat.lt_trichotomy k₀ (n + 1) with h | h | h
    · rw [dif_pos (by omega), dif_pos (by omega), hg _ hn (by omega), add_zero]
    · subst h
      rw [dif_neg (by omega), dif_pos le_rfl, zero_add]
    · rw [dif_neg (by omega), dif_neg (by omega), hg _ hn (by omega), add_zero]

end Cert.Best

end
-- ==== Proof.Spec.lean ====
/-
  The mathematics of one entry, away from arrays: the cipher that hashes an entry's number, the Gumbel noise
  made from the hash, and what it means to be the column an argmax returns.
-/
module

public import Idealize.ShloMosaic.PureOps.Ideal.Laws
public import Idealize.ShloMosaic.Lib.IdealHost

@[expose] public section

noncomputable section

namespace Cert.Spec

open Idealize.ShloMosaic

/-! ## The hash of an entry's number -/

/-- One round of the cipher: rotate left by `r` (`r' = 32 - r`). -/
def rnd (r r' : BitVec 32) (p : BitVec 32 × BitVec 32) : BitVec 32 × BitVec 32 :=
  (p.1 + p.2, (p.1 + p.2) ^^^ ((p.2 <<< r.toNat) ||| (p.2 >>> r'.toNat)))

/-- One key injection. -/
def inj (a b : BitVec 32) (p : BitVec 32 × BitVec 32) : BitVec 32 × BitVec 32 := (p.1 + a, p.2 + b)

/-- The four rounds of the odd groups, -/
def odd (p : BitVec 32 × BitVec 32) : BitVec 32 × BitVec 32 := rnd 6 26 (rnd 26 6 (rnd 15 17 (rnd 13 19 p)))
/-- and of the even ones. -/
def even (p : BitVec 32 × BitVec 32) : BitVec 32 × BitVec 32 := rnd 24 8 (rnd 16 16 (rnd 29 3 (rnd 17 15 p)))

/-- The cipher with the key (0, 42), on a block the key has been added to. -/
def cipher (p : BitVec 32 × BitVec 32) : BitVec 32 × BitVec 32 :=
  inj 466689008 5 (odd (inj 42 466689012 (even (inj 0 45 (odd (inj 466689008 2 (even (inj 42 466689009 (odd p)))))))))

/-- The random word of entry `n`. -/
def hash (n : BitVec 32) : BitVec 32 := (cipher (0, n + 42)).1 ^^^ (cipher (0, n + 42)).2

/-! ## The noise made from a word -/

/-- The least positive normal number. -/
abbrev tiny : EReal := Ideal.ofBits .f32 0x00800000#32
/-- One, -/
abbrev one : EReal := Ideal.ofBits .f32 0x3F800000#32
/-- and zero, as literals. -/
abbrev zero : EReal := Ideal.ofBits .f32 0x00000000#32

/-- The uniform number in [0, 1) whose mantissa is the word's upper 23 bits. -/
def mant (w : BitVec 32) : EReal := Ideal.ofBits .f32 (w >>> 9 ||| 1065353216#32) - one

/-- The Gumbel noise. -/
def gum (w : BitVec 32) : EReal := zero - Ideal.log (zero - Ideal.log (max tiny (mant w * one + tiny)))

/-- Minus infinity as a literal. -/
theorem ninf : Ideal.ofBits .f32 0xFF800000#32 = ⊥ := by
  simp [Ideal.ofBits, Ideal.ieee]

/-- The uniform number is not negative. -/
theorem mant_nonneg (w : BitVec 32) : 0 ≤ mant w := by
  have hg (o i : ℕ) (h : 23 ≤ o) : (w >>> 9 ||| 1065353216#32).getLsbD (o + i) = (1065353216#32).getLsbD (o + i) := by
    rw [BitVec.getLsbD_or, BitVec.getLsbD_ushiftRight, BitVec.getLsbD_of_ge w _ (by omega), Bool.false_or]
  have h1 : (w >>> 9 ||| 1065353216#32).extractLsb' 23 8 = 127#8 := by
    refine (BitVec.eq_of_getLsbD_eq fun i _ => ?_ : _ = (1065353216#32).extractLsb' 23 8)
    rw [BitVec.getLsbD_extractLsb', BitVec.getLsbD_extractLsb', hg 23 i le_rfl]
  have h2 : (w >>> 9 ||| 1065353216#32).extractLsb' 31 1 = 0#1 := by
    refine (BitVec.eq_of_getLsbD_eq fun i _ => ?_ : _ = (1065353216#32).extractLsb' 31 1)
    rw [BitVec.getLsbD_extractLsb', BitVec.getLsbD_extractLsb', hg 31 i (by decide)]
  unfold mant one
  rw [Ideal.ofBits_one_f32]
  generalize hb : w >>> 9 ||| 1065353216#32 = b at h1 h2
  have e : Ideal.ofBits .f32 b = (((1 : ℝ) * (2 ^ 23 + (b.extractLsb' 0 23).toNat : ℕ) * 2 ^ ((127 : ℤ) - 127 - 23) : ℝ) : EReal) := by
    show Ideal.ieee 8 23 b = _
    unfold Ideal.ieee
    simp only [show 8 + 23 = 31 from rfl, h1, h2]
    norm_num
  rw [e, ← EReal.coe_one, ← EReal.coe_sub, ← EReal.coe_zero, EReal.coe_le_coe_iff]
  have : (0 : ℝ) ≤ ((b.extractLsb' 0 23).toNat : ℝ) := Nat.cast_nonneg _
  push_cast
  norm_num
  linarith

/-- The noise as the reference spells it: the uniform number clipped below at 0, negations for differences. -/
theorem gum_ref (w : BitVec 32) : -Ideal.log (-Ideal.log (max tiny (max zero (mant w * (one - zero) + zero) * one + tiny))) = gum w := by
  have h0 : zero = 0 := Ideal.ofBits_zero_f32
  have h1 : one = 1 := Ideal.ofBits_one_f32
  have e : max (0 : EReal) (mant w) = mant w := max_eq_right (mant_nonneg w)
  unfold gum
  simp only [h0, h1, sub_zero, mul_one, add_zero, e, sub_eq_add_neg, zero_add, neg_zero]

/-! ## The column an argmax returns -/

/-- `J` is the first column where `Z` is greatest. -/
def IsArg (Z : Fin 100000 → EReal) (J : Fin 100000) : Prop := (∀ c, Z c ≤ Z J) ∧ ∀ c, Z c = Z J → J ≤ c

/-- There is only one. -/
theorem IsArg.unique {Z : Fin 100000 → EReal} {J K : Fin 100000} (hJ : IsArg Z J) (hK : IsArg Z K) : J = K := by
  have e : Z J = Z K := le_antisymm (hK.1 J) (hJ.1 K)
  exact le_antisymm (hJ.2 K e.symm) (hK.2 J e)

/-- A row's noisy scores: row `r` is entries `100000 r …` of the array. -/
def noisyRow (s : Fin 100000 → EReal) (r : ℕ) (c : Fin 100000) : EReal := s c + gum (hash (BitVec.ofNat 32 (100000 * r + c)))

/-- `o` is the row `s` with what lies below the sampled column's score masked out. -/
def Masked (s o : Fin 100000 → EReal) (r : ℕ) : Prop :=
  ∃ J, IsArg (noisyRow s r) J ∧ ∀ c, o c = if s c < s J then ⊥ else s c

/-- That leaves one row. -/
theorem Masked.unique {s o o' : Fin 100000 → EReal} {r : ℕ} (h : Masked s o r) (h' : Masked s o' r) : o = o' := by
  obtain ⟨J, hJ, e⟩ := h
  obtain ⟨K, hK, e'⟩ := h'
  obtain rfl := hJ.unique hK
  exact funext fun c => (e c).trans (e' c).symm

end Cert.Spec

end
-- ==== Proof.ChunkIdeal.lean ====
/-
  What one grid step computes, in extended reals: each operation of `Chunk` read at an entry, then the three
  folds over the chunks, which find the row's argmax and the score there.
-/
module

public import proofs.«01_k».proof.Proof.Chunk
public import proofs.«01_k».proof.Proof.Best
public import proofs.«01_k».proof.Proof.Spec
public import Idealize.ShloMosaic.Lib.ValueLayoutCasts
public import Idealize.ShloMosaic.Lib.ValueIdx
public import Idealize.ShloMosaic.Lib.SortNet.Extract

@[expose] public section

noncomputable section

namespace Cert.KernelIdeal.Chunk

open Idealize.ShloMosaic Idealize.ShloMosaic.TcCoe Idealize.ShloMosaic.ValueIdx Cert.KernelIdeal Cert.KernelIdeal.Gen Cert.Spec Cert.Best

/-! ## The noise at an entry -/

section
variable {s : Shape}

/-- The pair of words a pair of vectors holds at an entry. -/
def pairAt (i : s.Idx) (p : IVec s 32 × IVec s 32) : BitVec 32 × BitVec 32 := (p.1 i, p.2 i)

/-- A round works entry by entry, -/
theorem vrnd_at (r r' : BitVec 32) (hr : r.toNat < 32) (hr' : r'.toNat < 32) (p : IVec s 32 × IVec s 32) (i : s.Idx) :
    pairAt i (vrnd r r' p) = rnd r r' (pairAt i p) := by
  refine Prod.ext rfl ?_
  show IntOp.xori (IntOp.addi (p.1 i) (p.2 i)) (IntOp.ori (IntOp.shli .vector (p.2 i) r) (IntOp.shrui .vector (p.2 i) r')) = _
  unfold IntOp.shli IntOp.shrui
  rw [if_pos hr, if_pos hr']
  rfl

/-- and so does a key injection, -/
theorem vinj_at (a b : BitVec 32) (p : IVec s 32 × IVec s 32) (i : s.Idx) : pairAt i (vinj a b p) = inj a b (pairAt i p) := rfl

/-- a group of rounds, odd -/
theorem vodd_at (p : IVec s 32 × IVec s 32) (i : s.Idx) : pairAt i (vodd p) = odd (pairAt i p) := by
  unfold vodd
  rw [vrnd_at _ _ (by decide) (by decide), vrnd_at _ _ (by decide) (by decide), vrnd_at _ _ (by decide) (by decide),
    vrnd_at _ _ (by decide) (by decide)]
  rfl

/-- or even, -/
theorem veven_at (p : IVec s 32 × IVec s 32) (i : s.Idx) : pairAt i (veven p) = even (pairAt i p) := by
  unfold veven
  rw [vrnd_at _ _ (by decide) (by decide), vrnd_at _ _ (by decide) (by decide), vrnd_at _ _ (by decide) (by decide),
    vrnd_at _ _ (by decide) (by decide)]
  rfl

/-- and the cipher. -/
theorem vcipher_at (p : IVec s 32 × IVec s 32) (i : s.Idx) : pairAt i (vcipher p) = cipher (pairAt i p) := by
  unfold vcipher
  rw [vinj_at, vodd_at, vinj_at, veven_at, vinj_at, vodd_at, vinj_at, veven_at, vinj_at, vodd_at]
  rfl

/-- The noise of a random word. -/
theorem noise_at (b : IVec s 32) (i : s.Idx) : noise (F := Ideal) s b i = gum (b i) := by
  have h : IntOp.shrui .vector (b i) 9 = b i >>> 9 := by
    unfold IntOp.shrui
    rw [if_pos (by decide)]
    rfl
  show zero - Ideal.log (zero - Ideal.log (max tiny ((Ideal.ofBits .f32 (IntOp.shrui .vector (b i) 9 ||| 1065353216#32) - one) * one + tiny))) = _
  rw [h]
  rfl
end

/-! ## A chunk at an entry -/

section
variable {w : ℕ} (h : Fit w)

/-- The noisy score in row `r`, column `lo + c`. -/
theorem noisy_at (v1 lo : BitVec 32) (x : FVec Ideal (SW w) .f32) (r : Fin 8) (c : Fin w) :
    noisy w h v1 lo x (ix2 r c)
      = x (ix2 r c) + gum (hash (v1 + BitVec.ofNat 32 r * 100000 + (BitVec.ofNat 32 c + lo))) := by
  show x (ix2 r c) + noise (F := Ideal) (SW w) (bits w h v1 lo) (ix2 r c) = _
  rw [noise_at]
  have e : bits w h v1 lo (ix2 r c) = (pairAt (ix2 r c) (vcipher (counter w h v1 lo))).1 ^^^ (pairAt (ix2 r c) (vcipher (counter w h v1 lo))).2 := rfl
  have e' : pairAt (ix2 r c) (counter w h v1 lo) = (0, v1 + BitVec.ofNat 32 r * 100000 + (BitVec.ofNat 32 c + lo) + 42) := by
    unfold pairAt counter
    refine Prod.ext rfl ?_
    show v1 + BitVec.ofNat 32 (0 * 8 + r) * 100000 + (BitVec.ofNat 32 (0 * w + c) + lo) + 42 = _
    rw [Nat.zero_mul, Nat.zero_mul, Nat.zero_add, Nat.zero_add]
  rw [e, vcipher_at, e']
  rfl

/-- Reducing the columns keeps the row. -/
theorem drop_eq (i : (SW w).Idx) : h.red.drop i = ix1 (i 0) := by
  funext a
  match a with
  | ⟨0, _⟩ => exact Fin.ext (h.red.drop_apply_val_of_eq i 0 0 (by show 0 < 1; decide) rfl)

/-- A reduction along the columns by a choosing operation, as a column of row results. -/
theorem reduce_best {α : Type} {le : α → α → Prop} {f : α → α → α} (hf : Chooses le f) (init : α) (x : (SW w).Idx → α) (r : Fin 8) :
    (reduceFold h.red f init x (ix1 r) = init ∨ ∃ c, reduceFold h.red f init x (ix1 r) = x (ix2 r c))
      ∧ le (reduceFold h.red f init x (ix1 r)) init ∧ ∀ c, le (reduceFold h.red f init x (ix1 r)) (x (ix2 r c)) := by
  obtain ⟨hm, hi, hl⟩ := reduceFold_best hf h.red init x (ix1 r)
  refine ⟨hm.imp id fun ⟨i, hd, e⟩ => ⟨i 1, ?_⟩, hi, fun c => hl _ (drop_eq h _)⟩
  have : i 0 = r := by
    have := congrFun ((drop_eq h i).symm.trans hd) 0
    exact this
  subst this
  exact e.trans (congrArg x (eq_ix2 i))

/-- The maximum chooses. -/
theorem chooses_max : Chooses (fun a b : EReal => b ≤ a) max where
  refl _ := le_rfl
  trans _ _ _ h h' := h'.trans h
  mem a b := max_choice a b
  left := le_max_left
  right := le_max_right

/-- The signed minimum chooses. -/
theorem chooses_min : Chooses (fun a b : BitVec 32 => a.toInt ≤ b.toInt) IntOp.minsi where
  refl _ := le_rfl
  trans _ _ _ h h' := h.trans h'
  mem a b := by unfold IntOp.minsi; split <;> simp
  left a b := by rw [SortNet.toInt_minsi]; exact min_le_left _ _
  right a b := by rw [SortNet.toInt_minsi]; exact min_le_right _ _

/-- A chunk's maximum is one of its entries and no less than any. -/
theorem chunkMax_at (hw : 0 < w) (z : FVec Ideal (SW w) .f32) (r : Fin 8) :
    (∃ c, chunkMax w h z (ix2 r 0) = z (ix2 r c)) ∧ ∀ c, z (ix2 r c) ≤ chunkMax w h z (ix2 r 0) := by
  have e : chunkMax w h z (ix2 r 0) = reduceFold h.red max (Ideal.ofBits .f32 0xFF800000#32) z (ix1 r) :=
    shapeCast_a_a1_apply _ _ r 0
  rw [e]
  obtain ⟨hm, -, hl⟩ := reduce_best h chooses_max (Ideal.ofBits .f32 0xFF800000#32) z r
  refine ⟨hm.elim (fun e => ⟨⟨0, hw⟩, ?_⟩) id, hl⟩
  have := hl ⟨0, hw⟩
  rw [e, ninf, le_bot_iff] at this
  rw [e, ninf, this]

/-- A column spread over a chunk. -/
theorem bcast_at {α : Type} (x : S8x1.Idx → α) (r : Fin 8) (c : Fin w) : broadcastTo (SW w) x h.bc (ix2 r c) = x (ix2 r 0) := by
  refine broadcastTo_apply x h.bc _ _ fun a => ?_
  match a with
  | ⟨0, _⟩ => rfl
  | ⟨1, _⟩ => rfl

/-- The column number of a chunk's entry. -/
theorem cols_at (L : ℕ) (r : Fin 8) (c : Fin w) : cols w h (BitVec.ofNat 32 L) (ix2 r c) = BitVec.ofNat 32 (L + c) := by
  show BitVec.ofNat 32 (0 * w + c) + BitVec.ofNat 32 L = _
  rw [← BitVec.ofNat_add, Nat.zero_mul, Nat.zero_add, Nat.add_comm]

/-- A small number read signed. -/
theorem toInt_small (n : ℕ) (hn : n ≤ 100000) : (BitVec.ofNat 32 n).toInt = n := by
  rw [BitVec.toInt_eq_toNat_of_lt (by rw [BitVec.toNat_ofNat]; omega), BitVec.toNat_ofNat]
  omega

/-- A chunk's least column attaining `m`: no greater than any column that does; one of them, or 100000 and up. -/
theorem chunkIdx_at (L : ℕ) (hL : L + w ≤ 100000) (m : FVec Ideal S8x1 .f32) (z : FVec Ideal (SW w) .f32) (r : Fin 8) :
    (∀ c : Fin w, z (ix2 r c) = m (ix2 r 0) → (chunkIdx w h (BitVec.ofNat 32 L) m z (ix2 r 0)).toInt ≤ (L + c : ℕ))
      ∧ ((∃ c : Fin w, z (ix2 r c) = m (ix2 r 0) ∧ (chunkIdx w h (BitVec.ofNat 32 L) m z (ix2 r 0)).toInt = (L + c : ℕ))
        ∨ 100000 ≤ (chunkIdx w h (BitVec.ofNat 32 L) m z (ix2 r 0)).toInt) := by
  have e : chunkIdx w h (BitVec.ofNat 32 L) m z (ix2 r 0) = reduceFold h.red IntOp.minsi 2147483647#32
      (select (cmpf .oeq z (broadcastTo (SW w) m h.bc)) (cols w h (BitVec.ofNat 32 L)) (broadcast (SW w) 100000)) (ix1 r) :=
    shapeCast_a_a1_apply _ _ r 0
  have es (c : Fin w) : select (cmpf .oeq z (broadcastTo (SW w) m h.bc)) (cols w h (BitVec.ofNat 32 L)) (broadcast (SW w) 100000#32) (ix2 r c)
      = if z (ix2 r c) = m (ix2 r 0) then BitVec.ofNat 32 (L + c) else 100000 := by
    rw [select_apply, cmpf_apply, bcast_at h, cols_at]
    show Scalar.select (BitVec.ofBool (decide (z (ix2 r c) = m (ix2 r 0)))) _ _ = _
    by_cases hc : z (ix2 r c) = m (ix2 r 0)
    · rw [decide_eq_true hc, if_pos hc]; rfl
    · rw [decide_eq_false hc, if_neg hc]; rfl
  rw [e]
  obtain ⟨hm, -, hl⟩ := reduce_best h chooses_min 2147483647#32
    (select (cmpf .oeq z (broadcastTo (SW w) m h.bc)) (cols w h (BitVec.ofNat 32 L)) (broadcast (SW w) 100000#32)) r
  refine ⟨fun c hc => ?_, ?_⟩
  · have := hl c
    rw [es, if_pos hc, toInt_small _ (by omega)] at this
    exact this
  · rcases hm with hm | ⟨c, hm⟩
    · right; erw [hm]; decide
    · by_cases hc : z (ix2 r c) = m (ix2 r 0)
      · refine .inl ⟨c, hc, ?_⟩
        erw [hm]
        rw [es, if_pos hc, toInt_small _ (by omega)]
      · right
        erw [hm]
        rw [es, if_neg hc]
        decide

/-- A chunk's score in column `J`, 0 if the chunk has no such column. -/
theorem chunkSum_at (L J : ℕ) (hL : L + w ≤ 100000) (hJ : J < 100000) (j : IVec S8x1 32) (x : FVec Ideal (SW w) .f32) (r : Fin 8)
    (hj : j (ix2 r 0) = BitVec.ofNat 32 J) :
    chunkSum w h (BitVec.ofNat 32 L) j x (ix2 r 0)
      = if hh : L ≤ J ∧ J < L + w then x (ix2 r ⟨J - L, by omega⟩) else 0 := by
  have e : chunkSum w h (BitVec.ofNat 32 L) j x (ix2 r 0) = multiReduction .add [1] S8
      (select (cmpi .eq (cols w h (BitVec.ofNat 32 L)) (broadcastTo (SW w) j h.bc)) x
        (splat (SW w) 0x00000000#32)) 0x00000000#32 h.red (.inl rfl) rfl (ix1 r) :=
    shapeCast_a_a1_apply _ _ r 0
  have el (c : Fin w) : h.red.lift (ix1 r) c = ix2 r c := by
    funext a
    match a with
    | ⟨0, _⟩ => rfl
    | ⟨1, _⟩ => rfl
  have es (c : Fin w) : select (cmpi .eq (cols w h (BitVec.ofNat 32 L)) (broadcastTo (SW w) j h.bc)) x
        (splat (SW w) 0x00000000#32) (ix2 r c) = if L + c.val = J then x (ix2 r c) else 0 := by
    rw [select_apply]
    show Scalar.select (BitVec.ofBool (decide (cols w h (BitVec.ofNat 32 L) (ix2 r c) = broadcastTo (SW w) j h.bc (ix2 r c)))) _ zero = _
    rw [cols_at, bcast_at h, hj]
    have : (BitVec.ofNat 32 (L + c.val) = BitVec.ofNat 32 J) ↔ L + c.val = J := by
      constructor
      · intro hh
        have h2 := congrArg BitVec.toNat hh
        rw [BitVec.toNat_ofNat, BitVec.toNat_ofNat] at h2
        omega
      · rintro rfl; rfl
    by_cases hc : L + c.val = J
    · rw [decide_eq_true (this.mpr hc), if_pos hc]; rfl
    · rw [decide_eq_false (mt this.mp hc), if_neg hc]; exact Ideal.ofBits_zero_f32
  rw [e]
  refine (Ideal.multiReduction_add_single _ _ h.red (.inl rfl) rfl (ix1 r)).trans ?_
  refine (Finset.sum_congr rfl fun (c : Fin w) _ => (congrArg _ (el c)).trans (es c)).trans ?_
  split
  · next hh =>
    refine (Finset.sum_eq_single (⟨J - L, by omega⟩ : Fin w) (fun c _ hc => if_neg fun hh' => hc (Fin.ext ?_))
      (fun hh' => absurd (Finset.mem_univ _) hh')).trans (if_pos ?_)
    · show c.val = J - L; omega
    · show L + (J - L) = J; omega
  · next hh =>
    refine Finset.sum_eq_zero fun c _ => if_neg ?_
    have := c.isLt
    omega

/-- A chunk's masked scores. -/
theorem chunkOut_at (t : FVec Ideal S8x1 .f32) (x : FVec Ideal (SW w) .f32) (r : Fin 8) (c : Fin w) :
    chunkOut w h t x (ix2 r c) = if x (ix2 r c) < t (ix2 r 0) then ⊥ else x (ix2 r c) := by
  show Scalar.select (BitVec.ofBool (decide (x (ix2 r c) < broadcastTo (SW w) t h.bc (ix2 r c)))) (Ideal.ofBits .f32 0xFF800000#32) _ = _
  rw [bcast_at h, ninf]
  by_cases hc : x (ix2 r c) < t (ix2 r 0)
  · rw [decide_eq_true hc, if_pos hc]; rfl
  · rw [decide_eq_false hc, if_neg hc]; rfl
end

/-! ## The folds over the chunks -/

attribute [local irreducible] fold

/-- The chunks `x`, `xL` are the rows `X` cut up. -/
structure Cut (X : Fin 8 → Fin 100000 → EReal) (x : ∀ k, k < 97 → FVec Ideal (SW 1024) .f32) (xL : FVec Ideal (SW 672) .f32) : Prop where
  full : ∀ k (hk : k < 97) r (c : Fin 1024), x k hk (ix2 r c) = X r ⟨1024 * k + c, by omega⟩
  last : ∀ r (c : Fin 672), xL (ix2 r c) = X r ⟨99328 + c, by omega⟩

/-- A column is in a full chunk or in the last. -/
theorem col_cases (c : Fin 100000) : (∃ k, ∃ hk : k < 97, ∃ d : Fin 1024, c = ⟨1024 * k + d, by omega⟩) ∨ ∃ d : Fin 672, c = ⟨99328 + d, by omega⟩ := by
  rcases Nat.lt_or_ge c.val 99328 with hc | hc
  · exact .inl ⟨c.val / 1024, by omega, ⟨c.val % 1024, by omega⟩, Fin.ext (by show c.val = 1024 * (c.val / 1024) + c.val % 1024; omega)⟩
  · exact .inr ⟨⟨c.val - 99328, by omega⟩, Fin.ext (by show c.val = 99328 + (c.val - 99328); omega)⟩

/-- The maximum over the chunks is a row's greatest entry. -/
theorem rowMax_at {Z : Fin 8 → Fin 100000 → EReal} {v1 : BitVec 32} {x : ∀ k, k < 97 → FVec Ideal (SW 1024) .f32}
    {xL : FVec Ideal (SW 672) .f32} (hz : Cut Z (zc v1 x) (zL v1 xL)) (r : Fin 8) :
    (∃ c, rowMax v1 x xL (ix2 r 0) = Z r c) ∧ ∀ c, Z r c ≤ rowMax v1 x xL (ix2 r 0) := by
  have e : rowMax v1 x xL (ix2 r 0) = max (fold (fun k h => chunkMax 1024 fit1024 (zc v1 x k h) (ix2 r 0)) max 96 (by decide))
      (chunkMax 672 fit672 (zL v1 xL) (ix2 r 0)) :=
    congrArg (max · _) (fold_apply (op' := max) (fun _ _ _ => rfl) (fun k h => chunkMax 1024 fit1024 (zc v1 x k h)) (ix2 r 0) 96 (by decide))
  rw [e]
  obtain ⟨⟨k, hk, ek⟩, hl⟩ := fold_best chooses_max (fun k h => chunkMax 1024 fit1024 (zc v1 x k h) (ix2 r 0)) 96 (by decide)
  refine ⟨?_, fun c => ?_⟩
  · rcases max_choice (fold (fun k h => chunkMax 1024 fit1024 (zc v1 x k h) (ix2 r 0)) max 96 (by decide))
      (chunkMax 672 fit672 (zL v1 xL) (ix2 r 0)) with h | h
    · obtain ⟨⟨c, ec⟩, -⟩ := chunkMax_at fit1024 (by decide) (zc v1 x k hk) r
      exact ⟨_, (h.trans (ek.trans ec)).trans (hz.full k hk r c)⟩
    · obtain ⟨⟨c, ec⟩, -⟩ := chunkMax_at fit672 (by decide) (zL v1 xL) r
      exact ⟨_, (h.trans ec).trans (hz.last r c)⟩
  · rcases col_cases c with ⟨k, hk, d, rfl⟩ | ⟨d, rfl⟩
    · rw [← hz.full k hk r d]
      exact (((chunkMax_at fit1024 (by decide) (zc v1 x k hk) r).2 d).trans (hl k hk (by omega))).trans (le_max_left _ _)
    · rw [← hz.last r d]
      exact ((chunkMax_at fit672 (by decide) (zL v1 xL) r).2 d).trans (le_max_right _ _)

/-- The index over the chunks is the first column where the row is greatest. -/
theorem rowIdx_at {Z : Fin 8 → Fin 100000 → EReal} {z : ∀ k, k < 97 → FVec Ideal (SW 1024) .f32}
    {zL : FVec Ideal (SW 672) .f32} (hz : Cut Z z zL) (m : FVec Ideal S8x1 .f32) (r : Fin 8)
    (hm : (∃ c, m (ix2 r 0) = Z r c) ∧ ∀ c, Z r c ≤ m (ix2 r 0)) :
    ∃ J : Fin 100000, IsArg (Z r) J ∧ rowIdx m z zL (ix2 r 0) = BitVec.ofNat 32 J := by
  have e : rowIdx m z zL (ix2 r 0) = IntOp.minsi (fold (fun k h => chunkIdx 1024 fit1024 (lo k) m (z k h) (ix2 r 0)) IntOp.minsi 96 (by decide))
      (chunkIdx 672 fit672 99328 m zL (ix2 r 0)) := by
    unfold rowIdx
    generalize chunkIdx 672 fit672 99328 m zL = G
    exact congrArg (IntOp.minsi · (G (ix2 r 0))) (fold_apply (op' := IntOp.minsi) (fun _ _ _ => rfl) (fun k h => chunkIdx 1024 fit1024 (lo k) m (z k h)) (ix2 r 0) 96 (by decide))
  rw [e]
  obtain ⟨⟨k, hk, ek⟩, hl⟩ := fold_best chooses_min (fun k h => chunkIdx 1024 fit1024 (lo k) m (z k h) (ix2 r 0)) 96 (by decide)
  generalize fold (fun k h => chunkIdx 1024 fit1024 (lo k) m (z k h) (ix2 r 0)) IntOp.minsi 96 (by decide) = A at *
  have hB := chunkIdx_at fit672 99328 (by decide) m zL r
  change (∀ c : Fin 672, _ → (chunkIdx 672 fit672 99328 m zL (ix2 r 0)).toInt ≤ _) ∧ ((∃ c : Fin 672, _ ∧ (chunkIdx 672 fit672 99328 m zL (ix2 r 0)).toInt = _)
    ∨ 100000 ≤ (chunkIdx 672 fit672 99328 m zL (ix2 r 0)).toInt) at hB
  generalize chunkIdx 672 fit672 99328 m zL (ix2 r 0) = B at *
  -- no greater than any column that attains the maximum
  have hle (c : Fin 100000) (hc : Z r c = m (ix2 r 0)) : (IntOp.minsi A B).toInt ≤ (c.val : ℤ) := by
    rw [SortNet.toInt_minsi]
    rcases col_cases c with ⟨k, hk, d, rfl⟩ | ⟨d, rfl⟩
    · rw [← hz.full k hk r d] at hc
      exact (min_le_left _ _).trans ((hl k hk (by omega)).trans ((chunkIdx_at fit1024 (1024 * k) (by omega) m (z k hk) r).1 d hc))
    · rw [← hz.last r d] at hc
      exact (min_le_right _ _).trans (hB.1 d hc)
  -- and one of them, since there is one
  have hmem : ∃ c : Fin 100000, Z r c = m (ix2 r 0) ∧ (IntOp.minsi A B).toInt = (c.val : ℤ) := by
    obtain ⟨c₀, h₀⟩ := hm.1
    have h1 := hle c₀ h₀.symm
    have hlt : (IntOp.minsi A B).toInt < 100000 := lt_of_le_of_lt h1 (by have := c₀.isLt; omega)
    rcases chooses_min.mem A B with h | h <;> rw [h] at hlt ⊢
    · rcases (chunkIdx_at fit1024 (1024 * k) (by omega) m (z k hk) r).2 with ⟨d, hd, e1⟩ | e1
      · exact ⟨_, (hz.full k hk r d).symm.trans hd, (congrArg BitVec.toInt ek).trans e1⟩
      · exact absurd (lt_of_eq_of_lt (congrArg BitVec.toInt ek).symm hlt) (not_lt.mpr e1)
    · rcases hB.2 with ⟨d, hd, e1⟩ | e1
      · exact ⟨_, (hz.last r d).symm.trans hd, e1⟩
      · exact absurd hlt (not_lt.mpr e1)
  obtain ⟨J, hJ, eJ⟩ := hmem
  refine ⟨J, ⟨fun c => (hm.2 c).trans hJ.ge, fun c hc => ?_⟩, ?_⟩
  · have := hle c (hc.trans hJ)
    rw [eJ] at this
    exact Fin.le_def.mpr (by exact_mod_cast this)
  · exact BitVec.eq_of_toInt_eq (eJ.trans (toInt_small _ (by have := J.isLt; omega)).symm)

/-- The sum over the chunks is the row's score in the column asked for. -/
theorem rowThr_at {X : Fin 8 → Fin 100000 → EReal} {x : ∀ k, k < 97 → FVec Ideal (SW 1024) .f32} {xL : FVec Ideal (SW 672) .f32}
    (hx : Cut X x xL) (j : IVec S8x1 32) (r : Fin 8) (J : Fin 100000) (hj : j (ix2 r 0) = BitVec.ofNat 32 J) :
    rowThr j x xL (ix2 r 0) = X r J := by
  have e : rowThr j x xL (ix2 r 0) = fold (fun k h => chunkSum 1024 fit1024 (lo k) j (x k h) (ix2 r 0)) (· + ·) 96 (by decide)
      + chunkSum 672 fit672 99328 j xL (ix2 r 0) :=
    congrArg (· + chunkSum 672 fit672 99328 j xL (ix2 r 0)) (fold_apply (op' := fun a b : EReal => a + b) (fun _ _ _ => rfl) (fun k h => chunkSum 1024 fit1024 (lo k) j (x k h)) (ix2 r 0) 96 (by decide))
  have hJ := J.isLt
  have hk (k : ℕ) (h : k < 97) := chunkSum_at fit1024 (1024 * k) J (by omega) hJ j (x k h) r hj
  have hL : chunkSum 672 fit672 99328 j xL (ix2 r 0) = _ := chunkSum_at fit672 99328 J (by decide) hJ j xL r hj
  have hz : ∀ k h, k ≠ J.val / 1024 → chunkSum 1024 fit1024 (lo k) j (x k h) (ix2 r 0) = 0 := fun k h hne => by
    refine (hk k h).trans (dif_neg ?_)
    omega
  rw [e, fold_add_single _ (J.val / 1024) hz, hL]
  rcases Nat.lt_or_ge J.val 99328 with h | h
  · rw [dif_pos (by omega), dif_neg (by omega), add_zero]
    refine (hk _ (by omega)).trans ?_
    rw [dif_pos (by omega), hx.full]
    exact congrArg (X r) (Fin.ext (by show 1024 * (J.val / 1024) + (J.val - 1024 * (J.val / 1024)) = J.val; omega))
  · rw [dif_neg (by omega), dif_pos (by omega), zero_add, hx.last]
    exact congrArg (X r) (Fin.ext (by show 99328 + (J.val - 99328) = J.val; omega))

end Cert.KernelIdeal.Chunk

end
-- ==== Proof.Block.lean ====
/-
  What one grid step leaves in its block of the result, in extended reals: each row masked at the score in the
  column where its noisy scores are greatest.
-/
module

public import proofs.«01_k».proof.Proof.Words
public import proofs.«01_k».proof.Proof.ChunkIdeal

@[expose] public section

noncomputable section

namespace Cert.KernelIdeal.Block

open Idealize.ShloMosaic Idealize.ShloMosaic.TcCoe Idealize.ShloMosaic.ValueIdx
open Cert.KernelIdeal Cert.KernelIdeal.Gen Cert.KernelIdeal.Chunk Cert.KernelIdeal.Words Cert.Spec

/-! ## Stores that cut up rows -/

/-- Each store in the list is one of the chunks', -/
theorem of_mem_stores {α : Type} (f : ∀ k, k < 97 → α) (p : α) : ∀ (n : ℕ) (h : n ≤ 97), p ∈ stores f n h → ∃ k hk, p = f k hk
  | 0, _, hp => nomatch hp
  | n + 1, h, hp => by
    rcases List.mem_cons.mp hp with e | hp
    · exact ⟨n, h, e⟩
    · exact of_mem_stores f p n (Nat.le_of_succ_le h) hp

/-- and each chunk's store is in it. -/
theorem mem_stores {α : Type} (f : ∀ k, k < 97 → α) (k : ℕ) (hk : k < 97) : ∀ (n : ℕ) (h : n ≤ 97), k < n → f k hk ∈ stores f n h
  | n + 1, h, hlt => by
    rcases Nat.lt_or_ge k n with h' | h'
    · exact List.mem_cons_of_mem _ (mem_stores f k hk n (Nat.le_of_succ_le h) h')
    · obtain rfl : k = n := by omega
      exact List.mem_cons_self

/-- A chunk's entry in the block: its row, -/
theorem box_idx (k : ℕ) (h : k < 97) (r : Fin 8) (d : Fin 1024) : (box k h).idx (ix2 r d) = ix2 r ⟨1024 * k + d, by omega⟩ := by
  funext a
  match a with
  | ⟨0, _⟩ => exact Fin.ext (by show 0 + 1 * r.val = r.val; omega)
  | ⟨1, _⟩ => exact Fin.ext (by show 1024 * k + 1 * d.val = 1024 * k + d.val; omega)

/-- and its column past the chunk's first. -/
theorem boxL_idx (r : Fin 8) (d : Fin 672) : boxL.idx (ix2 r d) = ix2 r ⟨99328 + d, by omega⟩ := by
  funext a
  match a with
  | ⟨0, _⟩ => exact Fin.ext (by show 0 + 1 * r.val = r.val; omega)
  | ⟨1, _⟩ => exact Fin.ext (by show 99328 + 1 * d.val = 99328 + d.val; omega)

/-- A block stored chunk by chunk holds the rows the chunks cut up. -/
theorem canon_chunks {Y : Fin 8 → Fin 100000 → EReal} {p : ∀ k, k < 97 → FVec Ideal (SW 1024) .f32} {pL : FVec Ideal (SW 672) .f32}
    (hp : Cut Y p pL) (r : Fin 8) (C : Fin 100000) :
    View.canon (Val := Elt Ideal) (s := S8x100000) (e := .f32) (⟨boxL, pL⟩ :: stores (fun k h => ⟨box k h, p k h⟩) 97 le_rfl) (ix2 r C) = Y r C := by
  refine View.canon_apply_of_pieces (Val := Elt Ideal) (S := S8x100000) (e := .f32) (fun y => Y (y 0) (y 1)) _ (fun q hq x => ?_) (ix2 r C) ?_
  · rcases List.mem_cons.mp hq with rfl | hq
    · have e : x = ix2 (n0 := 8) (n1 := 672) (x 0) (x 1) := eq_ix2 x
      rw [e]
      exact (hp.last _ _).trans (congrArg (fun y : S8x100000.Idx => Y (y 0) (y 1)) (boxL_idx (x 0) (x 1)).symm)
    · obtain ⟨k, hk, rfl⟩ := of_mem_stores _ q 97 le_rfl hq
      have e : x = ix2 (n0 := 8) (n1 := 1024) (x 0) (x 1) := eq_ix2 x
      rw [e]
      exact (hp.full k hk _ _).trans (congrArg (fun y : S8x100000.Idx => Y (y 0) (y 1)) (box_idx k hk (x 0) (x 1)).symm)
  · rcases col_cases C with ⟨k, hk, d, rfl⟩ | ⟨d, rfl⟩
    · refine ⟨_, List.mem_cons_of_mem _ (mem_stores _ k hk 97 le_rfl hk), ?_⟩
      rw [← box_idx k hk r d]
      exact (box k hk).idx_mem _
    · refine ⟨_, List.mem_cons_self, ?_⟩
      rw [← boxL_idx r d]
      exact boxL.idx_mem _

/-- The scratch after pass 1 holds the noisy scores. -/
theorem canon_z {Y : Fin 8 → Fin 100000 → EReal} {v1 : BitVec 32} {x : ∀ k, k < 97 → FVec Ideal (SW 1024) .f32} {xL : FVec Ideal (SW 672) .f32}
    (hp : Cut Y (zc v1 x) (zL v1 xL)) (r : Fin 8) (C : Fin 100000) :
    View.canon (Val := Elt Ideal) (s := S8x100000) (e := .f32) (zPieces v1 x xL) (ix2 r C) = Y r C := by
  unfold zPieces
  simp only [shapeCast_self]
  exact canon_chunks hp r C

/-! ## The grid step -/

section
variable (c : Dev nD) (i : grid0.Coords) (arg1 : Memref sig .tc .vmem S8x100000 .f32) (harg1 : arg1.IsWhole)
  (arg3 : Memref sig .tc .vmem S8x100000 .f32) (x0 : Vec Ideal S8x100000 .f32)

/-- The chunks loaded cut up the rows of the step's scores. -/
theorem cut_x : Cut (fun r C => x0 (ix2 r C)) (ldx (F := Ideal) arg1 harg1 x0) (ldxL (F := Ideal) arg1 harg1 x0) where
  full k hk r d := by
    unfold ldx
    rw [View.readAt_eq_ld, harg1.read_unread]
    exact congrArg x0 (box_idx k hk r d)
  last r d := by
    unfold ldxL
    rw [View.readAt_eq_ld, harg1.read_unread]
    exact congrArg x0 (boxL_idx r d)

/-- The rows' noisy scores. -/
def noisyOf (x0 : Vec Ideal S8x100000 .f32) (r : Fin 8) : Fin 100000 → EReal :=
  noisyRow (fun C => x0 (ix2 r C)) (8 * (i 0).val + r)

/-- The entry's number as the kernel counts it. -/
theorem number (L : ℕ) (r : Fin 8) (d : ℕ) :
    base i + BitVec.ofNat 32 r * 100000 + (BitVec.ofNat 32 d + BitVec.ofNat 32 L)
      = BitVec.ofNat 32 (100000 * (8 * (i 0).val + r) + (L + d)) := by
  show BitVec.ofNat 32 (i 0).val * BitVec.ofNat 32 8 * BitVec.ofNat 32 100000 + BitVec.ofNat 32 r * BitVec.ofNat 32 100000
    + (BitVec.ofNat 32 d + BitVec.ofNat 32 L) = _
  rw [← BitVec.ofNat_mul, ← BitVec.ofNat_mul, ← BitVec.ofNat_mul, ← BitVec.ofNat_add, ← BitVec.ofNat_add, ← BitVec.ofNat_add]
  congr 1
  ring

/-- The chunks of pass 1 cut up the rows' noisy scores, -/
theorem cut_zc : Cut (noisyOf i x0) (zc (base i) (ldx (F := Ideal) arg1 harg1 x0)) (zL (base i) (ldxL (F := Ideal) arg1 harg1 x0)) where
  full k hk r d := by
    refine (noisy_at fit1024 _ _ _ r d).trans ?_
    rw [number, (cut_x arg1 harg1 x0).full]
    rfl
  last r d := by
    exact (noisy_at fit672 _ _ _ r d).trans
      (congrArg₂ (fun a b => a + gum (hash b)) ((cut_x arg1 harg1 x0).last r d) (number i 99328 r d))

/-- and so do those read back in pass 2. -/
theorem cut_ldz : Cut (noisyOf i x0) (ldz (F := Ideal) c i arg1 harg1 arg3 x0) (ldzL (F := Ideal) c i arg1 harg1 arg3 x0) where
  full k hk r d := by
    unfold ldz
    rw [View.readCov_eq_canon', z_eq]
    exact (congrArg (View.canon (Val := Elt Ideal) (s := S8x100000) (e := .f32) (zPieces (F := Ideal) (base i) (ldx (F := Ideal) arg1 harg1 x0) (ldxL (F := Ideal) arg1 harg1 x0))) (box_idx k hk r d)).trans
      (canon_z (cut_zc i arg1 harg1 x0) r _)
  last r d := by
    unfold ldzL
    rw [View.readCov_eq_canon', z_eq]
    exact (congrArg (View.canon (Val := Elt Ideal) (s := S8x100000) (e := .f32) (zPieces (F := Ideal) (base i) (ldx (F := Ideal) arg1 harg1 x0) (ldxL (F := Ideal) arg1 harg1 x0))) (boxL_idx r d)).trans
      (canon_z (cut_zc i arg1 harg1 x0) r _)

/-- The grid step's rows, masked. -/
theorem out_masked (arg2 : Memref sig .tc .vmem S8x100000 .f32) (harg2 : arg2.IsWhole) (harg3 : arg3.IsWhole) (r : Fin 8) :
    Masked (fun C => x0 (ix2 r C)) (fun C => out0_A_1 (F := Ideal) c i arg1 harg1 arg2 harg2 arg3 harg3 x0 (ix2 r C)) (8 * (i 0).val + r) := by
  have hm := rowMax_at (cut_zc i arg1 harg1 x0) r
  rw [← max_eq c i arg1 harg1 x0] at hm
  obtain ⟨J, hJ, ej⟩ := rowIdx_at (cut_ldz c i arg1 harg1 arg3 x0) _ r hm
  rw [← idx_eq c i arg1 harg1 arg3 x0] at ej
  have et := rowThr_at (cut_x arg1 harg1 x0) _ r J ej
  rw [← thr_eq c i arg1 harg1 arg3 x0] at et
  refine ⟨J, hJ, fun C => ?_⟩
  show out0_A_1 (F := Ideal) c i arg1 harg1 arg2 harg2 arg3 harg3 x0 (ix2 r C) = _
  unfold out0_A_1
  rw [View.read_writes_eq_canon _ _ _ (cover0_A_1 c i arg1 harg1 arg2 harg2 arg3 harg3 x0), out_eq]
  generalize kernelRun0_A.sl.r_502 (F := Ideal) c i arg1 harg1 arg3 x0 = t at et ⊢
  have ho : Cut (fun r C => if x0 (ix2 r C) < t (ix2 r 0) then ⊥ else x0 (ix2 r C))
      (fun k h => chunkOut 1024 fit1024 t (ldx (F := Ideal) arg1 harg1 x0 k h)) (chunkOut 672 fit672 t (ldxL (F := Ideal) arg1 harg1 x0)) := by
    refine ⟨fun k hk r d => ?_, fun r d => ?_⟩
    · rw [chunkOut_at, (cut_x arg1 harg1 x0).full]
    · rw [chunkOut_at, (cut_x arg1 harg1 x0).last]
  show View.canon _ _ = if x0 (ix2 r C) < x0 (ix2 r J) then ⊥ else x0 (ix2 r C)
  rw [← et]
  exact canon_chunks ho r C
end

end Cert.KernelIdeal.Block

end
-- ==== Proof.Array.lean ====
/-
  The kernel's whole result in extended reals: grid step `t` writes rows 8t … 8t+7, so every row of the array ends masked.
-/
module

public import proofs.«01_k».proof.Proof.Block
public import proofs.«01_k».proof.Proof.Gen.KernelIdeal.Value
public import Idealize.ShloMosaic.Lib.Pipeline.ValueKit.Geometry

@[expose] public section

noncomputable section

namespace Cert.KernelIdeal.Result

open Idealize.ShloMosaic Idealize.ShloMosaic.TcCoe Idealize.ShloMosaic.ValueIdx Idealize.SL.Sem
open Cert.KernelIdeal Cert.KernelIdeal.Gen Cert.Spec

/-- Where the blocks of step `t` are, and the number the step computes with. -/
theorem step : ∀ t : Fin grid0.N, win0_0.index t 0 = t.val ∧ win0_0.index t 1 = 0 ∧ win0_1.index t 0 = t.val ∧ win0_1.index t 1 = 0
    ∧ (grid0.coords t 0).val = t.val := by
  decide +kernel

variable (m : (ℓ : Loc nD τ sig) → Buf (Elt Ideal) ℓ) (ρ : Dev nD → PrngReg)

/-- The scores as launched, -/
abbrev scores (c : Dev nD) : S64x100000.Idx → EReal := m ((c : Thread nD τ).loc main_arg1)
/-- and the result. -/
abbrev result (c : Dev nD) : S64x100000.Idx → EReal := (dats m 0 c).arrAt 1 cfg0.N

/-- Step `t` reads rows 8t … 8t+7 of the scores, -/
theorem iblk_at (c : Dev nD) (t : Fin cfg0.N) (r : Fin 8) (C : Fin 100000) (R : Fin 64) (hR : R.val = 8 * t.val + r.val) :
    (iblk m c 0 t : Vec Ideal S8x100000 .f32) (ix2 r C) = scores m c (ix2 R C) := by
  show V m c main_arg1 (((cfg0.win 0).blk t).view.emb (ix2 (n0 := 8) (n1 := 100000) r C)) = _
  rw [V_main_arg1]
  obtain ⟨h0, h1, -⟩ := step t
  refine congrArg (scores m c) (funext fun a => ?_)
  match a with
  | ⟨0, _⟩ =>
    refine Fin.ext ?_
    show win0_0.index t 0 * 8 + 1 * r.val = R.val
    rw [h0]; omega
  | ⟨1, _⟩ =>
    refine Fin.ext ?_
    show win0_0.index t 1 * 100000 + 1 * C.val = C.val
    rw [h1]; omega

/-- and the same rows of the result are what it leaves. -/
theorem result_at (c : Dev nD) (t : Fin cfg0.N) (r : Fin 8) (C : Fin 100000) (R : Fin 64) (hR : R.val = 8 * t.val + r.val) :
    result m c (ix2 R C) = outsAt0 m c t (ix2 r C) := by
  let x : (win0_1.xblock (grid0.coords t)).Idx := ix2 (n0 := 8) (n1 := 100000) r C
  have h : result m c (((cfg0.win 1).blk t).view.emb x) = outsAt0 m c t (ix2 r C) := by
    have h := congrFun ((Value.blocks1 m c t (flush0_1 t)).trans (Value.flushed1 m c t)) x
    rw [Pipeline.Window.cut_apply] at h
    have e : win0_1.xinj (grid0.coords t) x = ix2 (n0 := 8) (n1 := 100000) r C := rfl
    rw [← e]
    generalize outsAt0 m c t = o at h ⊢
    unfold result
    generalize (dats m 0 c).arrAt 1 cfg0.N = A at h ⊢
    exact h
  obtain ⟨-, -, h0, h1, -⟩ := step t
  refine Eq.trans (congrArg (result m c) (funext fun a => ?_)) h
  match a with
  | ⟨0, _⟩ =>
    refine Fin.ext ?_
    show R.val = win0_1.index t 0 * 8 + 1 * r.val
    rw [h0]; omega
  | ⟨1, _⟩ =>
    refine Fin.ext ?_
    show C.val = win0_1.index t 1 * 100000 + 1 * C.val
    rw [h1]; omega

/-- Every row of the result is the row of the scores, masked. -/
theorem masked (c : Dev nD) (R : Fin 64) :
    Masked (fun C => scores m c (ix2 R C)) (fun C => result m c (ix2 R C)) R.val := by
  have hN : cfg0.N = 8 := N_0
  let t : Fin cfg0.N := ⟨R.val / 8, by have := R.isLt; omega⟩
  let r : Fin 8 := ⟨R.val % 8, by omega⟩
  have hR : R.val = 8 * t.val + r.val := by show R.val = 8 * (R.val / 8) + R.val % 8; omega
  have h := Block.out_masked c (grid0.coords t) (ms0_0 t) (hs0_0 t) scM0_0 (iblk m c 0 t) (ms0_1 t) (hs0_1 t) (Memref.isWhole_whole _) r
  rw [(step t).2.2.2.2, ← hR] at h
  have e1 : (fun C => (iblk m c 0 t : Vec Ideal S8x100000 .f32) (ix2 r C)) = fun C => scores m c (ix2 R C) :=
    funext fun C => iblk_at m c t r C R hR
  have e2 : (fun C => out0_A_1 (F := Ideal) c (grid0.coords t) (ms0_0 t) (hs0_0 t) (ms0_1 t) (hs0_1 t) scM0_0 (Memref.isWhole_whole _) (iblk m c 0 t) (ix2 r C))
      = fun C => result m c (ix2 R C) :=
    funext fun C => (result_at m c t r C R hR).symm
  rw [e1, e2] at h
  exact h

end Cert.KernelIdeal.Result

end
-- ==== Proof.Lines.lean ====
/-
  A straight line of host operations, read as equations.

  Each operation of a program of the kind writes one buffer from some others, once. `Line` is such an
  operation with the equation it establishes; `lines_hold` says that when no buffer is written twice and
  each is written before it is read — checked by walking the buffers' numbers — every equation holds of
  the buffers' contents after the whole line has run.
-/
module

public import Idealize.ShloMosaic.Lib.StableHlo.Run

@[expose] public section

noncomputable section

namespace Cert.Lines

open Idealize.ShloMosaic Idealize.ShloMosaic.TcCoe Idealize.ShloMosaic.StableHlo Idealize.SL.Sem

variable {τ : Topo} {sig : RefSig} {Val : EltTy → Type}
variable {T Tx Ta Tb Tc Te Ty : BufTy}

/-- What the buffer of a typed reference holds. -/
abbrev get (x : TRef sig T) (W : Valuation τ sig Val) : T.Contents Val := x.ofBuf (W (x.ref : DevRef τ sig))

/-- An operation that writes one buffer, the buffers it reads, and the equation between their contents it
    establishes. -/
structure Line (τ : Topo) (sig : RefSig) (Val : EltTy → Type) where
  /-- The operation. -/
  op : HloOp τ sig Val
  /-- The buffers it reads. -/
  reads : List (Ref sig .tc)
  /-- The buffer it writes. -/
  write : Ref sig .tc
  writes_eq : op.writes = {(write : DevRef τ sig)}
  bufs_sub : op.bufs ⊆ tcRefs τ sig
  fresh_eq : op.fresh = ∅
  /-- The equation. -/
  holds : Valuation τ sig Val → Prop
  spec : ∀ V W : Valuation τ sig Val, (∀ r ∈ reads, W (r : DevRef τ sig) = V (r : DevRef τ sig)) →
    W (write : DevRef τ sig) = op.result V (write : DevRef τ sig) → holds W

namespace Line

/-- A constant. -/
@[reducible] def nullary (y : TRef sig Ty) (v : Ty.Contents Val) : Line τ sig Val where
  op := TRef.nullary y v
  reads := []
  write := y.ref
  writes_eq := nullary_writes ..
  bufs_sub := nullary_bufs_sub ..
  fresh_eq := rfl
  holds W := get y W = v
  spec V W _ h := by
    show get y W = v
    rw [get, h, nullary_result, TRef.ofBuf_toBuf]

/-- An operation on one array. -/
@[reducible] def unary (x : TRef sig Tx) (y : TRef sig Ty) (f : Tx.Contents Val → Ty.Contents Val) : Line τ sig Val where
  op := TRef.unary x y f
  reads := [x.ref]
  write := y.ref
  writes_eq := unary_writes ..
  bufs_sub := unary_bufs_sub ..
  fresh_eq := rfl
  holds W := get y W = f (get x W)
  spec V W hr h := by
    show get y W = f (get x W)
    simp only [get]
    rw [h, unary_result, TRef.ofBuf_toBuf, hr x.ref (by simp)]

/-- An operation on two arrays. -/
@[reducible] def binary (a : TRef sig Ta) (b : TRef sig Tb) (y : TRef sig Ty)
    (f : Ta.Contents Val → Tb.Contents Val → Ty.Contents Val) : Line τ sig Val where
  op := TRef.binary a b y f
  reads := [a.ref, b.ref]
  write := y.ref
  writes_eq := binary_writes ..
  bufs_sub := binary_bufs_sub ..
  fresh_eq := rfl
  holds W := get y W = f (get a W) (get b W)
  spec V W hr h := by
    show get y W = f (get a W) (get b W)
    simp only [get]
    rw [h, binary_result, TRef.ofBuf_toBuf, hr a.ref (by simp), hr b.ref (by simp)]

/-- An operation on three arrays. -/
@[reducible] def ternary (c : TRef sig Tc) (a : TRef sig Ta) (b : TRef sig Tb) (y : TRef sig Ty)
    (f : Tc.Contents Val → Ta.Contents Val → Tb.Contents Val → Ty.Contents Val) : Line τ sig Val where
  op := TRef.ternary c a b y f
  reads := [c.ref, a.ref, b.ref]
  write := y.ref
  writes_eq := ternary_writes ..
  bufs_sub := ternary_bufs_sub ..
  fresh_eq := rfl
  holds W := get y W = f (get c W) (get a W) (get b W)
  spec V W hr h := by
    show get y W = f (get c W) (get a W) (get b W)
    simp only [get]
    rw [h, ternary_result, TRef.ofBuf_toBuf, hr c.ref (by simp), hr a.ref (by simp), hr b.ref (by simp)]

/-- An operation on four arrays. -/
@[reducible] def quaternary (a : TRef sig Ta) (b : TRef sig Tb) (c : TRef sig Tc) (e : TRef sig Te) (y : TRef sig Ty)
    (f : Ta.Contents Val → Tb.Contents Val → Tc.Contents Val → Te.Contents Val → Ty.Contents Val) : Line τ sig Val where
  op := TRef.quaternary a b c e y f
  reads := [a.ref, b.ref, c.ref, e.ref]
  write := y.ref
  writes_eq := quaternary_writes ..
  bufs_sub := quaternary_bufs_sub ..
  fresh_eq := rfl
  holds W := get y W = f (get a W) (get b W) (get c W) (get e W)
  spec V W hr h := by
    show get y W = f (get a W) (get b W) (get c W) (get e W)
    simp only [get]
    rw [h, quaternary_result, TRef.ofBuf_toBuf, hr a.ref (by simp), hr b.ref (by simp), hr c.ref (by simp), hr e.ref (by simp)]

/-- A change of shape. -/
@[reducible] def reshape (x : TRef sig Tx) (y : TRef sig Ty) (he : Tx.elt = Ty.elt) (hn : Tx.shape.ShapeCasts Ty.shape) :
    Line τ sig Val where
  op := TRef.reshape x y he hn
  reads := [x.ref]
  write := y.ref
  writes_eq := reshape_writes ..
  bufs_sub := reshape_bufs_sub ..
  fresh_eq := rfl
  holds W := get y W = fun i => he ▸ shapeCast Ty.shape (get x W) hn i
  spec V W hr h := by
    obtain ⟨x, rfl, hx, hx'⟩ := x
    obtain ⟨y, rfl, hy, hy'⟩ := y
    show W (y : DevRef τ sig) = fun i => he ▸ shapeCast y.ty.shape (W (x : DevRef τ sig)) hn i
    rw [h, reshape_result, hr x (by simp)]

end Line

/-- A buffer's number. -/
def num (r : Ref sig .tc) : ℕ := r.idx.val

/-- Each line writes a buffer of a higher number than every earlier line and than every buffer it reads; the first one
    at least `n`. -/
def check : ℕ → List (Line τ sig Val) → Bool
  | _, [] => true
  | n, l :: ls => n ≤ num l.write && l.reads.all (fun r => num r < num l.write) && check (num l.write + 1) ls

/-- A buffer of a number below `n` keeps its contents. -/
theorem after_low : ∀ (ls : List (Line τ sig Val)) (n : ℕ), check n ls = true → ∀ (V : Valuation τ sig Val) (r : Ref sig .tc),
    num r < n → after (ls.map Line.op) V (r : DevRef τ sig) = V (r : DevRef τ sig)
  | [], _, _, _, _, _ => rfl
  | l :: ls, n, h, V, r, hr => by
    simp only [check, Bool.and_eq_true, decide_eq_true_eq] at h
    rw [List.map_cons, after_cons, after_low ls _ h.2 _ r (by omega), HloOp.result_of_not_mem]
    rw [l.writes_eq, Finset.mem_singleton]
    refine devRef_ne_of_ne fun e => ?_
    subst e
    omega

/-- Every line's equation holds after the run. -/
theorem lines_hold : ∀ (ls : List (Line τ sig Val)) (n : ℕ), check n ls = true → ∀ (V : Valuation τ sig Val),
    ∀ l ∈ ls, l.holds (after (ls.map Line.op) V)
  | [], _, _, _, _, hl => nomatch hl
  | l :: ls, n, h, V, l', hl => by
    have h' := h
    simp only [check, Bool.and_eq_true, decide_eq_true_eq, List.all_eq_true] at h'
    rw [List.map_cons, after_cons]
    rcases List.mem_cons.mp hl with rfl | hl
    · refine l'.spec V _ (fun r hr => ?_) (after_low ls _ h'.2 _ _ (Nat.lt_succ_self _))
      have hlt := h'.1.2 r hr
      rw [after_low ls _ h'.2 _ r (by omega), HloOp.result_of_not_mem]
      rw [l'.writes_eq, Finset.mem_singleton]
      refine devRef_ne_of_ne fun e => ?_
      subst e
      omega
    · exact lines_hold ls _ h'.2 _ l' hl

/-- The lines touch TensorCore buffers only, -/
theorem lines_sub (ls : List (Line τ sig Val)) : (ls.map Line.op).Forall fun op => op.bufs ⊆ tcRefs τ sig := by
  rw [List.forall_iff_forall_mem]
  intro op hop
  obtain ⟨l, -, rfl⟩ := List.mem_map.mp hop
  exact l.bufs_sub

/-- and leave none undetermined. -/
theorem lines_fresh (ls : List (Line τ sig Val)) : ∀ op ∈ ls.map Line.op, op.fresh = ∅ := by
  intro op hop
  obtain ⟨l, -, rfl⟩ := List.mem_map.mp hop
  exact l.fresh_eq

end Cert.Lines

end
-- ==== Proof.RefLines.lean ====
/-
  The reference program as a list of lines.

  @main and the functions it calls, operation by operation, in the order they run; the cipher's twenty
  rounds and five key injections are each one shape of lines (`roundLines`, `injectLines`).
-/
module

public import proofs.«01_k».proof.Proof.Lines
public import proofs.«01_k».proof.Proof.Gen.ReferenceIdeal
public import Idealize.ShloMosaic.Lib.Tactic

@[expose] public section

noncomputable section

namespace Cert.ReferenceIdeal.Run

open Idealize.ShloMosaic Idealize.ShloMosaic.TcCoe Idealize.ShloMosaic.StableHlo Idealize.SL.Sem
open Cert.ReferenceIdeal Cert.ReferenceIdeal.Gen Cert.Lines

variable {F : FTy → Type} [FloatOps F]

/-- A word. -/
abbrev W0 := TRef sig ⟨S_, .i32⟩
/-- An array of words. -/
abbrev WA := TRef sig ⟨S64x100000, .i32⟩

/-- One round of the cipher: from the pair `x0`, `x1` the pair `a`, `y`. -/
def roundLines (x0 x1 a : WA) (c1 : W0) (b1 s1 : WA) (c2 : W0) (b2 s2 o y : WA) (r r' : BitVec 32) : List (Line τ sig (Elt F)) :=
  [ .binary x0 x1 a addi,
    .nullary c1 (constantI S_ 32 r),
    .unary c1 b1 (broadcastInDim S64x100000 ![] bcast_S_S64x100000),
    .binary x1 b1 s1 Host.shli,
    .nullary c2 (constantI S_ 32 r'),
    .unary c2 b2 (broadcastInDim S64x100000 ![] bcast_S_S64x100000),
    .binary x1 b2 s2 Host.shrui,
    .binary s1 s2 o ori,
    .binary a o y xori ]

/-- One key injection: from the pair `x0`, `x1` the pair `b0`, `y`. -/
def injectLines (x0 x1 : WA) (ka : W0) (kb : W0) (a0 b0 a1 b1 : WA) (c2 : W0) (b2 y : WA) (n : BitVec 32) : List (Line τ sig (Elt F)) :=
  [ .unary ka a0 (broadcastInDim S64x100000 ![] bcast_S_S64x100000),
    .binary x0 a0 b0 addi,
    .unary kb a1 (broadcastInDim S64x100000 ![] bcast_S_S64x100000),
    .binary x1 a1 b1 addi,
    .nullary c2 (constantI S_ 32 n),
    .unary c2 b2 (broadcastInDim S64x100000 ![] bcast_S_S64x100000),
    .binary b1 b2 y addi ]

section
variable (arg0 arg1 : W0) (arg2 arg3 : WA) (φ : fn_threefry2x32.Bufs)

/-- The cipher's key schedule and first key addition. -/
def tfHead : List (Line τ sig (Elt F)) :=
  [ .binary arg0 arg1 φ.v0 xori,
    .nullary φ.c (constantI S_ 32 466688986#32),
    .binary φ.v0 φ.c φ.v1 xori,
    .unary arg0 φ.v2 (broadcastInDim S64x100000 ![] bcast_S_S64x100000),
    .binary arg2 φ.v2 φ.v3 addi,
    .unary arg1 φ.v4 (broadcastInDim S64x100000 ![] bcast_S_S64x100000),
    .binary arg3 φ.v4 φ.v5 addi ]

/-- Four rounds and the key injection after them (group 1 of five). -/
def tfGroup1 : List (Line τ sig (Elt F)) :=
  roundLines φ.v3 φ.v5 φ.v6 φ.c_0 φ.v7 φ.v8 φ.c_1 φ.v9 φ.v10 φ.v11 φ.v12 13#32 19#32
    ++ roundLines φ.v6 φ.v12 φ.v13 φ.c_2 φ.v14 φ.v15 φ.c_3 φ.v16 φ.v17 φ.v18 φ.v19 15#32 17#32
    ++ roundLines φ.v13 φ.v19 φ.v20 φ.c_4 φ.v21 φ.v22 φ.c_5 φ.v23 φ.v24 φ.v25 φ.v26 26#32 6#32
    ++ roundLines φ.v20 φ.v26 φ.v27 φ.c_6 φ.v28 φ.v29 φ.c_7 φ.v30 φ.v31 φ.v32 φ.v33 6#32 26#32
    ++ injectLines φ.v27 φ.v33 arg1 φ.v1 φ.v34 φ.v35 φ.v36 φ.v37 φ.c_8 φ.v38 φ.v39 1#32

/-- Four rounds and the key injection after them (group 2 of five). -/
def tfGroup2 : List (Line τ sig (Elt F)) :=
  roundLines φ.v35 φ.v39 φ.v40 φ.c_9 φ.v41 φ.v42 φ.c_10 φ.v43 φ.v44 φ.v45 φ.v46 17#32 15#32
    ++ roundLines φ.v40 φ.v46 φ.v47 φ.c_11 φ.v48 φ.v49 φ.c_12 φ.v50 φ.v51 φ.v52 φ.v53 29#32 3#32
    ++ roundLines φ.v47 φ.v53 φ.v54 φ.c_13 φ.v55 φ.v56 φ.c_14 φ.v57 φ.v58 φ.v59 φ.v60 16#32 16#32
    ++ roundLines φ.v54 φ.v60 φ.v61 φ.c_15 φ.v62 φ.v63 φ.c_16 φ.v64 φ.v65 φ.v66 φ.v67 24#32 8#32
    ++ injectLines φ.v61 φ.v67 φ.v1 arg0 φ.v68 φ.v69 φ.v70 φ.v71 φ.c_17 φ.v72 φ.v73 2#32

/-- Four rounds and the key injection after them (group 3 of five). -/
def tfGroup3 : List (Line τ sig (Elt F)) :=
  roundLines φ.v69 φ.v73 φ.v74 φ.c_18 φ.v75 φ.v76 φ.c_19 φ.v77 φ.v78 φ.v79 φ.v80 13#32 19#32
    ++ roundLines φ.v74 φ.v80 φ.v81 φ.c_20 φ.v82 φ.v83 φ.c_21 φ.v84 φ.v85 φ.v86 φ.v87 15#32 17#32
    ++ roundLines φ.v81 φ.v87 φ.v88 φ.c_22 φ.v89 φ.v90 φ.c_23 φ.v91 φ.v92 φ.v93 φ.v94 26#32 6#32
    ++ roundLines φ.v88 φ.v94 φ.v95 φ.c_24 φ.v96 φ.v97 φ.c_25 φ.v98 φ.v99 φ.v100 φ.v101 6#32 26#32
    ++ injectLines φ.v95 φ.v101 arg0 arg1 φ.v102 φ.v103 φ.v104 φ.v105 φ.c_26 φ.v106 φ.v107 3#32

/-- Four rounds and the key injection after them (group 4 of five). -/
def tfGroup4 : List (Line τ sig (Elt F)) :=
  roundLines φ.v103 φ.v107 φ.v108 φ.c_27 φ.v109 φ.v110 φ.c_28 φ.v111 φ.v112 φ.v113 φ.v114 17#32 15#32
    ++ roundLines φ.v108 φ.v114 φ.v115 φ.c_29 φ.v116 φ.v117 φ.c_30 φ.v118 φ.v119 φ.v120 φ.v121 29#32 3#32
    ++ roundLines φ.v115 φ.v121 φ.v122 φ.c_31 φ.v123 φ.v124 φ.c_32 φ.v125 φ.v126 φ.v127 φ.v128 16#32 16#32
    ++ roundLines φ.v122 φ.v128 φ.v129 φ.c_33 φ.v130 φ.v131 φ.c_34 φ.v132 φ.v133 φ.v134 φ.v135 24#32 8#32
    ++ injectLines φ.v129 φ.v135 arg1 φ.v1 φ.v136 φ.v137 φ.v138 φ.v139 φ.c_35 φ.v140 φ.v141 4#32

/-- Four rounds and the key injection after them (group 5 of five). -/
def tfGroup5 : List (Line τ sig (Elt F)) :=
  roundLines φ.v137 φ.v141 φ.v142 φ.c_36 φ.v143 φ.v144 φ.c_37 φ.v145 φ.v146 φ.v147 φ.v148 13#32 19#32
    ++ roundLines φ.v142 φ.v148 φ.v149 φ.c_38 φ.v150 φ.v151 φ.c_39 φ.v152 φ.v153 φ.v154 φ.v155 15#32 17#32
    ++ roundLines φ.v149 φ.v155 φ.v156 φ.c_40 φ.v157 φ.v158 φ.c_41 φ.v159 φ.v160 φ.v161 φ.v162 26#32 6#32
    ++ roundLines φ.v156 φ.v162 φ.v163 φ.c_42 φ.v164 φ.v165 φ.c_43 φ.v166 φ.v167 φ.v168 φ.v169 6#32 26#32
    ++ injectLines φ.v163 φ.v169 φ.v1 arg0 φ.v170 φ.v171 φ.v172 φ.v173 φ.c_44 φ.v174 φ.v175 5#32

/-- The cipher. -/
def tfLines : List (Line τ sig (Elt F)) :=
  tfHead arg0 arg1 arg2 arg3 φ ++ tfGroup1 arg1 φ ++ tfGroup2 arg0 φ ++ tfGroup3 arg0 arg1 φ ++ tfGroup4 arg1 φ ++ tfGroup5 arg0 φ
end

/-- The uniform numbers: the counters and keys, -/
def uniformHead (arg0 : TRef sig ⟨S2, .i32⟩) (arg1 arg2 : TRef sig ⟨S_, .f32⟩) (φ : fn_uniform.Bufs) : List (Line τ sig (Elt F)) :=
  [ .unary arg1 φ.v0 id,
    .unary arg2 φ.v1 id,
    .unary φ.v0 φ.v2 (broadcastInDim S1x1 ![] bcast_S_S1x1),
    .unary φ.v1 φ.v3 (broadcastInDim S1x1 ![] bcast_S_S1x1),
    .unary arg0 φ.v4 (extractStridedSlice S1 ![0] · slices_S2_S1_0),
    .reshape φ.v4 φ.v5 (rfl : (.i32 : EltTy) = .i32) shapeCasts_S1_S_,
    .unary arg0 φ.v6 (extractStridedSlice S1 ![1] · slices_S2_S1_1),
    .reshape φ.v6 φ.v7 (rfl : (.i32 : EltTy) = .i32) shapeCasts_S1_S_,
    .nullary φ.v8 (iotaInDim S64x100000 64 0),
    .nullary φ.v9 (iotaInDim S64x100000 64 1),
    .nullary φ.c (constantI S_ 64 100000#64),
    .unary φ.c φ.v10 (broadcastInDim S64x100000 ![] bcast_S_S64x100000),
    .binary φ.v10 φ.v8 φ.v11 muli,
    .nullary φ.c_0 (constantI S_ 64 1#64),
    .unary φ.c_0 φ.v12 (broadcastInDim S64x100000 ![] bcast_S_S64x100000),
    .binary φ.v12 φ.v9 φ.v13 muli,
    .binary φ.v11 φ.v13 φ.v14 addi,
    .nullary φ.c_1 (constantI S_ 64 32#64),
    .unary φ.c_1 φ.v15 (broadcastInDim S64x100000 ![] bcast_S_S64x100000),
    .binary φ.v14 φ.v15 φ.v16 Host.shrui,
    .unary φ.v14 φ.v17 (trunci 32 · natLt_32_64),
    .unary φ.v16 φ.v18 (trunci 32 · natLt_32_64) ]

/-- and the words made floats. -/
def uniformTail (φ : fn_uniform.Bufs) : List (Line τ sig (Elt F)) :=
  [ .binary φ.call0.v171 φ.call0.v175 φ.v20 xori,
    .nullary φ.c_2 (constantI S_ 32 9#32),
    .unary φ.c_2 φ.v21 (broadcastInDim S64x100000 ![] bcast_S_S64x100000),
    .binary φ.v20 φ.v21 φ.v22 Host.shrui,
    .nullary φ.c_3 (constantI S_ 32 1065353216#32),
    .unary φ.c_3 φ.v23 (broadcastInDim S64x100000 ![] bcast_S_S64x100000),
    .binary φ.v22 φ.v23 φ.v24 ori,
    .unary φ.v24 φ.v25 (bitcastToFloat .f32),
    .nullary φ.cst (constant S_ .f32 0x3F800000#32),
    .unary φ.cst φ.v26 (broadcastInDim S64x100000 ![] bcast_S_S64x100000),
    .binary φ.v25 φ.v26 φ.v27 subf,
    .binary φ.v3 φ.v2 φ.v28 subf,
    .unary φ.v28 φ.v29 (broadcastInDim S64x100000 ![0, 1] bcast_S1x1_S64x100000_0_1),
    .binary φ.v27 φ.v29 φ.v30 mulf,
    .unary φ.v2 φ.v31 (broadcastInDim S64x100000 ![0, 1] bcast_S1x1_S64x100000_0_1),
    .binary φ.v30 φ.v31 φ.v32 addf,
    .unary φ.v2 φ.v33 (broadcastInDim S64x100000 ![0, 1] bcast_S1x1_S64x100000_0_1),
    .binary φ.v33 φ.v32 φ.v34 maximumf ]

/-- The argmax along the columns. -/
def argmaxLines (arg0 : TRef sig ⟨S64x100000, .f32⟩) (φ : fn_argmax.Bufs) : List (Line τ sig (Elt F)) :=
  [ .nullary φ.v0 (iotaInDim S64x100000 32 1),
    .nullary φ.cst (constant S_ .f32 0xFF800000#32),
    .nullary φ.c (constantI S_ 32 0#32),
    .quaternary arg0 φ.v0 φ.cst φ.c φ.v1_0 (fun x y u v j => (Host.argReduce reducer_argmax_f32_i32 x y u v reducesTo_S64x100000_S64_d1 h_S_ j).1),
    .quaternary arg0 φ.v0 φ.cst φ.c φ.v1_1 (fun x y u v j => (Host.argReduce reducer_argmax_f32_i32 x y u v reducesTo_S64x100000_S64_d1 h_S_ j).2) ]

/-- The entry of each row at an index. -/
def takeLines (arg0 : TRef sig ⟨S64x100000, .f32⟩) (arg1 : TRef sig ⟨S64x1, .i32⟩) (φ : fn_take_along_axis.Bufs) : List (Line τ sig (Elt F)) :=
  [ .nullary φ.c (constantI S_ 32 0#32),
    .unary φ.c φ.v0 (broadcastInDim S64x1 ![] bcast_S_S64x1),
    .binary arg1 φ.v0 φ.v1 (cmpi .slt),
    .nullary φ.c_0 (constantI S_ 32 100000#32),
    .unary φ.c_0 φ.v2 (broadcastInDim S64x1 ![] bcast_S_S64x1),
    .binary arg1 φ.v2 φ.v3 addi,
    .ternary φ.v1 φ.v3 arg1 φ.v4 select,
    .reshape φ.v4 φ.v5 (rfl : (.i32 : EltTy) = .i32) shapeCasts_S64x1_S64x1x1,
    .nullary φ.c_1 (constantI S1 32 99999#32),
    .nullary φ.c_2 (constantI S_ 32 0#32),
    .unary φ.c_2 φ.v6 (broadcastInDim S64x1x1 ![] bcast_S_S64x1x1),
    .binary φ.v5 φ.v6 φ.v7 (cmpi .sge),
    .unary φ.c_1 φ.v8 (broadcastInDim S1x1x1 ![2] bcast_S1_S1x1x1_2),
    .unary φ.v8 φ.v9 (broadcastInDim S64x1x1 ![0, 1, 2] bcast_S1x1x1_S64x1x1_0_1_2),
    .binary φ.v5 φ.v9 φ.v10 (cmpi .sle),
    .binary φ.v7 φ.v10 φ.v11 andi,
    .nullary φ.c_3 (constantI S_ 1 1#1),
    .binary φ.v11 φ.c_3 φ.v12 (fun x v => Host.reduce IntOp.andi x v reducesTo_S64x1x1_S64x1_d2 h_S_),
    .binary arg0 φ.v5 φ.v13 (fun x i => Host.gather gather_S64x100000_S64x1x1_S64x1_n_1_0_0_1_2_11 x i),
    .nullary φ.cst (constant S_ .f32 0x7FC00000#32),
    .unary φ.cst φ.v14 (broadcastInDim S64x1 ![] bcast_S_S64x1),
    .ternary φ.v12 φ.v13 φ.v14 φ.v15 select ]

/-- The mask. -/
def whereLines (arg0 : TRef sig ⟨S64x100000, .i1⟩) (arg1 : TRef sig ⟨S_, .f32⟩) (arg2 : TRef sig ⟨S64x100000, .f32⟩) (φ : fn_where.Bufs) :
    List (Line τ sig (Elt F)) :=
  [ .unary arg1 φ.v0 id,
    .unary φ.v0 φ.v1 (broadcastInDim S64x100000 ![] bcast_S_S64x100000),
    .ternary arg0 φ.v1 arg2 φ.v2 select ]

/-- The key, and the scores divided by the temperature. -/
def main0 : List (Line τ sig (Elt F)) :=
  [ .nullary (.of main_cst) (constant S_ .f32 0x3F800000#32),
    .unary (.of main_cst) (.of main_v0) (broadcastInDim S64x100000 ![] bcast_S_S64x100000 : (⟨S_, .f32⟩ : BufTy).Contents (Elt F) → (⟨S64x100000, .f32⟩ : BufTy).Contents (Elt F)),
    .binary (.of main_arg1) (.of main_v0) (.of main_v1) (Host.divf : (⟨S64x100000, .f32⟩ : BufTy).Contents (Elt F) → (⟨S64x100000, .f32⟩ : BufTy).Contents (Elt F) → (⟨S64x100000, .f32⟩ : BufTy).Contents (Elt F)),
    .nullary (.of main_c) (constantI S_ 32 42#32),
    .nullary (.of main_c_0) (constantI S_ 32 32#32),
    .binary (.of main_c) (.of main_c_0) (.of main_v2) (Host.shrui : (⟨S_, .i32⟩ : BufTy).Contents (Elt F) → (⟨S_, .i32⟩ : BufTy).Contents (Elt F) → (⟨S_, .i32⟩ : BufTy).Contents (Elt F)),
    .unary (.of main_v2) (.of main_v3) (id : (⟨S_, .i32⟩ : BufTy).Contents (Elt F) → (⟨S_, .i32⟩ : BufTy).Contents (Elt F)),
    .unary (.of main_v3) (.of main_v4) (broadcastInDim S1 ![] bcast_S_S1 : (⟨S_, .i32⟩ : BufTy).Contents (Elt F) → (⟨S1, .i32⟩ : BufTy).Contents (Elt F)),
    .nullary (.of main_c_1) (constantI S_ 32 4294967295#32),
    .binary (.of main_c) (.of main_c_1) (.of main_v5) (andi : (⟨S_, .i32⟩ : BufTy).Contents (Elt F) → (⟨S_, .i32⟩ : BufTy).Contents (Elt F) → (⟨S_, .i32⟩ : BufTy).Contents (Elt F)),
    .unary (.of main_v5) (.of main_v6) (id : (⟨S_, .i32⟩ : BufTy).Contents (Elt F) → (⟨S_, .i32⟩ : BufTy).Contents (Elt F)),
    .unary (.of main_v6) (.of main_v7) (broadcastInDim S1 ![] bcast_S_S1 : (⟨S_, .i32⟩ : BufTy).Contents (Elt F) → (⟨S1, .i32⟩ : BufTy).Contents (Elt F)),
    .binary (.of main_v4) (.of main_v7) (.of main_v8) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    .nullary (.of main_cst_2) (constant S_ .f32 0x00000000#32),
    .nullary (.of main_cst_3) (constant S_ .f32 0x3F800000#32) ]

/-- Gumbel noise from the uniform numbers, and the scores added. -/
def main1 : List (Line τ sig (Elt F)) :=
  [ .nullary (.of main_cst_4) (constant S_ .f32 0x3F800000#32),
    .unary (.of main_cst_4) (.of main_v10) (broadcastInDim S64x100000 ![] bcast_S_S64x100000 : (⟨S_, .f32⟩ : BufTy).Contents (Elt F) → (⟨S64x100000, .f32⟩ : BufTy).Contents (Elt F)),
    .binary (.of main_v9) (.of main_v10) (.of main_v11) (mulf : (⟨S64x100000, .f32⟩ : BufTy).Contents (Elt F) → (⟨S64x100000, .f32⟩ : BufTy).Contents (Elt F) → (⟨S64x100000, .f32⟩ : BufTy).Contents (Elt F)),
    .nullary (.of main_cst_5) (constant S_ .f32 0x00800000#32),
    .unary (.of main_cst_5) (.of main_v12) (broadcastInDim S64x100000 ![] bcast_S_S64x100000 : (⟨S_, .f32⟩ : BufTy).Contents (Elt F) → (⟨S64x100000, .f32⟩ : BufTy).Contents (Elt F)),
    .binary (.of main_v11) (.of main_v12) (.of main_v13) (addf : (⟨S64x100000, .f32⟩ : BufTy).Contents (Elt F) → (⟨S64x100000, .f32⟩ : BufTy).Contents (Elt F) → (⟨S64x100000, .f32⟩ : BufTy).Contents (Elt F)),
    .nullary (.of main_cst_6) (constant S_ .f32 0x00800000#32),
    .unary (.of main_cst_6) (.of main_v14) (broadcastInDim S64x100000 ![] bcast_S_S64x100000 : (⟨S_, .f32⟩ : BufTy).Contents (Elt F) → (⟨S64x100000, .f32⟩ : BufTy).Contents (Elt F)),
    .binary (.of main_v14) (.of main_v13) (.of main_v15) (maximumf : (⟨S64x100000, .f32⟩ : BufTy).Contents (Elt F) → (⟨S64x100000, .f32⟩ : BufTy).Contents (Elt F) → (⟨S64x100000, .f32⟩ : BufTy).Contents (Elt F)),
    .unary (.of main_v15) (.of main_v16) (Host.log : (⟨S64x100000, .f32⟩ : BufTy).Contents (Elt F) → (⟨S64x100000, .f32⟩ : BufTy).Contents (Elt F)),
    .unary (.of main_v16) (.of main_v17) (Host.negf : (⟨S64x100000, .f32⟩ : BufTy).Contents (Elt F) → (⟨S64x100000, .f32⟩ : BufTy).Contents (Elt F)),
    .unary (.of main_v17) (.of main_v18) (Host.log : (⟨S64x100000, .f32⟩ : BufTy).Contents (Elt F) → (⟨S64x100000, .f32⟩ : BufTy).Contents (Elt F)),
    .unary (.of main_v18) (.of main_v19) (Host.negf : (⟨S64x100000, .f32⟩ : BufTy).Contents (Elt F) → (⟨S64x100000, .f32⟩ : BufTy).Contents (Elt F)),
    .binary (.of main_v19) (.of main_v1) (.of main_v20) (addf : (⟨S64x100000, .f32⟩ : BufTy).Contents (Elt F) → (⟨S64x100000, .f32⟩ : BufTy).Contents (Elt F) → (⟨S64x100000, .f32⟩ : BufTy).Contents (Elt F)) ]

/-- The index as a column. -/
def main2 : List (Line τ sig (Elt F)) :=
  [ .unary (.of main_v21) (.of main_v22) (broadcastInDim S64x1 ![0] bcast_S64_S64x1_0 : (⟨S64, .i32⟩ : BufTy).Contents (Elt F) → (⟨S64x1, .i32⟩ : BufTy).Contents (Elt F)) ]

/-- The comparison with the threshold. -/
def main3 : List (Line τ sig (Elt F)) :=
  [ .unary (.of main_v23) (.of main_v24) (broadcastInDim S64x100000 ![0, 1] bcast_S64x1_S64x100000_0_1 : (⟨S64x1, .f32⟩ : BufTy).Contents (Elt F) → (⟨S64x100000, .f32⟩ : BufTy).Contents (Elt F)),
    .binary (.of main_arg1) (.of main_v24) (.of main_v25) (cmpf .olt : (⟨S64x100000, .f32⟩ : BufTy).Contents (Elt F) → (⟨S64x100000, .f32⟩ : BufTy).Contents (Elt F) → (⟨S64x100000, .i1⟩ : BufTy).Contents (Elt F)),
    .nullary (.of main_cst_7) (constant S_ .f32 0xFF800000#32) ]

/-- The whole program. -/
def lines : List (Line τ sig (Elt F)) :=
  main0 ++ (uniformHead (.of main_v8) (.of main_cst_2) (.of main_cst_3) main_call0
    ++ (tfLines main_call0.v5 main_call0.v7 main_call0.v18 main_call0.v17 main_call0.call0
    ++ (uniformTail main_call0
    ++ (main1 ++ (argmaxLines (.of main_v20) main_call1 ++ (main2 ++ (takeLines (.of main_arg1) (.of main_v22) main_call2
    ++ (main3 ++ whereLines (.of main_v25) (.of main_cst_7) (.of main_arg1) main_call3))))))))

/-- @main runs those lines. -/
theorem main_eq (c : Dev nD) : main (F := F) c = seq (lines.map Line.op) := by sl_kernel_rfl

/-- Each buffer is written once, before it is read. -/
theorem lines_check : check 2 (lines (F := F)) = true := by sl_kernel_rfl

/-- Nothing is scoped. -/
theorem scopedRefs_eq : (Finset.univ.filter fun b : Ref sig .tc => b.isScoped) = ∅ := by decide
theorem scopedSems_eq : (Finset.univ.filter fun sm : SemLoc sig => sm.isScoped .tc) = ∅ := by decide

/-- Every fair run of the reference ends, with the buffers as the lines leave them. -/
theorem run_lines (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (lines.map Line.op) (launchContents m d) (Proc.devRef .tc b) :=
  run_seq scopedRefs_eq scopedSems_eq defs main (fun _ => lines.map Line.op) main_eq (fun _ => lines_sub _) m ρ
    (fun _ => lines_fresh _)

end Cert.ReferenceIdeal.Run

end
-- ==== Proof.RefHash.lean ====
/-
  The reference's random words: what the lines of the cipher and of the uniform numbers say of one entry.
-/
module

public import proofs.«01_k».proof.Proof.RefLines
public import proofs.«01_k».proof.Proof.Spec
public import Idealize.ShloMosaic.Lib.ValueLayoutCasts
public import Idealize.ShloMosaic.Lib.ValueIdx

@[expose] public section

noncomputable section

namespace Cert.ReferenceIdeal.Run

open Idealize.ShloMosaic Idealize.ShloMosaic.TcCoe Idealize.ShloMosaic.StableHlo Idealize.ShloMosaic.ValueIdx Idealize.SL.Sem
open Cert.ReferenceIdeal Cert.ReferenceIdeal.Gen Cert.Lines Cert.Spec

/-- The contents of the reference's buffers. -/
abbrev Val := Valuation τ sig (Elt Ideal)

/-- Every line of a list holds. -/
abbrev All (ls : List (Line τ sig (Elt Ideal))) (W : Val) : Prop := ∀ l ∈ ls, l.holds W

variable {W : Val}

/-- The word an array of words holds at an entry, -/
def word (W : Val) (x : WA) (i : S64x100000.Idx) : BitVec 32 := get x W i
/-- that a scalar holds, -/
def sword (W : Val) (x : W0) : BitVec 32 := get x W ix0
/-- and the pair of words a pair of arrays holds. -/
def pair (W : Val) (x y : WA) (i : S64x100000.Idx) : BitVec 32 × BitVec 32 := (word W x i, word W y i)

/-- An array filled with a scalar. -/
theorem fill_at {x : W0} {y : WA} (h : (Line.unary (Val := Elt Ideal) (τ := τ) x y (broadcastInDim S64x100000 ![] bcast_S_S64x100000)).holds W)
    (i : S64x100000.Idx) : word W y i = sword W x := by
  have e : get y W = broadcastInDim S64x100000 ![] bcast_S_S64x100000 (get x W) := h
  unfold word sword
  rw [e]
  exact broadcastInDim_apply _ _ _ i ix0 fun a => a.elim0

/-- A literal. -/
theorem lit_at {x : W0} {r : BitVec 32} (h : (Line.nullary (Val := Elt Ideal) (τ := τ) x (constantI S_ 32 r)).holds W) : sword W x = r := by
  have e : get x W = constantI S_ 32 r := h
  unfold sword
  rw [e]
  rfl

/-- One round, at an entry. -/
theorem round_val {x0 x1 a b1 s1 b2 s2 o y : WA} {c1 c2 : W0} {r r' : BitVec 32} (hr : r.toNat < 32) (hr' : r'.toNat < 32)
    (h : All (roundLines x0 x1 a c1 b1 s1 c2 b2 s2 o y r r') W) (i : S64x100000.Idx) :
    pair W a y i = rnd r r' (pair W x0 x1 i) := by
  simp only [All, roundLines, List.forall_mem_cons] at h
  obtain ⟨ha, hc1, hb1, hs1, hc2, hb2, hs2, ho, hy, -⟩ := h
  have ea : word W a i = word W x0 i + word W x1 i := congrFun (show get a W = addi (get x0 W) (get x1 W) from ha) i
  have es1 : word W s1 i = word W x1 i <<< r.toNat := by
    have e : word W s1 i = IntOp.shli .host (word W x1 i) (word W b1 i) :=
      congrFun (show get s1 W = Host.shli (get x1 W) (get b1 W) from hs1) i
    rw [e, fill_at hb1, lit_at hc1]
    unfold IntOp.shli
    rw [if_pos hr]
    rfl
  have es2 : word W s2 i = word W x1 i >>> r'.toNat := by
    have e : word W s2 i = IntOp.shrui .host (word W x1 i) (word W b2 i) :=
      congrFun (show get s2 W = Host.shrui (get x1 W) (get b2 W) from hs2) i
    rw [e, fill_at hb2, lit_at hc2]
    unfold IntOp.shrui
    rw [if_pos hr']
    rfl
  have eo : word W o i = word W s1 i ||| word W s2 i := congrFun (show get o W = ori (get s1 W) (get s2 W) from ho) i
  have ey : word W y i = word W a i ^^^ word W o i := congrFun (show get y W = xori (get a W) (get o W) from hy) i
  unfold pair
  rw [ey, eo, es1, es2, ea]
  rfl

/-- One key injection, at an entry. -/
theorem inject_val {x0 x1 a0 b0 a1 b1 b2 y : WA} {ka kb c2 : W0} {n : BitVec 32}
    (h : All (injectLines x0 x1 ka kb a0 b0 a1 b1 c2 b2 y n) W) (i : S64x100000.Idx) :
    pair W b0 y i = inj (sword W ka) (sword W kb + n) (pair W x0 x1 i) := by
  simp only [All, injectLines, List.forall_mem_cons] at h
  obtain ⟨ha0, hb0, ha1, hb1, hc2, hb2, hy, -⟩ := h
  have e0 : word W b0 i = word W x0 i + word W a0 i := congrFun (show get b0 W = addi (get x0 W) (get a0 W) from hb0) i
  have e1 : word W b1 i = word W x1 i + word W a1 i := congrFun (show get b1 W = addi (get x1 W) (get a1 W) from hb1) i
  have ey : word W y i = word W b1 i + word W b2 i := congrFun (show get y W = addi (get b1 W) (get b2 W) from hy) i
  unfold pair
  rw [e0, ey, e1, fill_at ha0, fill_at ha1, fill_at hb2, lit_at hc2, BitVec.add_assoc]
  rfl

section
variable {arg0 arg1 : W0} {arg2 arg3 : WA} {φ : fn_threefry2x32.Bufs}

/-- Four rounds and a key injection: the shape of the five groups. -/
theorem group_val {x0 x1 y0 y1 : WA} {i : S64x100000.Idx} {A B C D E : List (Line τ sig (Elt Ideal))}
    {p : BitVec 32 × BitVec 32} {fA fB fC fD fE : BitVec 32 × BitVec 32 → BitVec 32 × BitVec 32} {a0 a1 b0 b1 c0 c1 d0 d1 : WA}
    (h : All (A ++ B ++ C ++ D ++ E) W) (hp : pair W x0 x1 i = p)
    (hA : All A W → pair W a0 a1 i = fA (pair W x0 x1 i)) (hB : All B W → pair W b0 b1 i = fB (pair W a0 a1 i))
    (hC : All C W → pair W c0 c1 i = fC (pair W b0 b1 i)) (hD : All D W → pair W d0 d1 i = fD (pair W c0 c1 i))
    (hE : All E W → pair W y0 y1 i = fE (pair W d0 d1 i)) : pair W y0 y1 i = fE (fD (fC (fB (fA p)))) := by
  simp only [All, List.forall_mem_append] at h
  rw [hE h.2, hD h.1.2, hC h.1.1.2, hB h.1.1.1.2, hA h.1.1.1.1, hp]

/-- The cipher, at an entry, where the keys are 0 and 42. -/
theorem cipher_val (h : All (tfLines arg0 arg1 arg2 arg3 φ) W) (h0 : sword W arg0 = 0) (h1 : sword W arg1 = 42) (i : S64x100000.Idx) :
    pair W φ.v171 φ.v175 i = cipher (word W arg2 i, word W arg3 i + 42) := by
  simp only [All, tfLines, List.forall_mem_append] at h
  obtain ⟨⟨⟨⟨⟨hH, g1⟩, g2⟩, g3⟩, g4⟩, g5⟩ := h
  simp only [tfHead, List.forall_mem_cons] at hH
  obtain ⟨k0, kc, k1, k2, k3, k4, k5, -⟩ := hH
  have ek : sword W φ.v1 = 466689008#32 := by
    have e0 : sword W φ.v0 = sword W arg0 ^^^ sword W arg1 := congrFun (show get φ.v0 W = xori (get arg0 W) (get arg1 W) from k0) ix0
    have e1 : sword W φ.v1 = sword W φ.v0 ^^^ sword W φ.c := congrFun (show get φ.v1 W = xori (get φ.v0 W) (get φ.c W) from k1) ix0
    rw [e1, e0, h0, h1, lit_at kc]
    rfl
  have e0 : pair W φ.v3 φ.v5 i = (word W arg2 i, word W arg3 i + 42) := by
    have e3 : word W φ.v3 i = word W arg2 i + word W φ.v2 i := congrFun (show get φ.v3 W = addi (get arg2 W) (get φ.v2 W) from k3) i
    have e5 : word W φ.v5 i = word W arg3 i + word W φ.v4 i := congrFun (show get φ.v5 W = addi (get arg3 W) (get φ.v4 W) from k5) i
    unfold pair
    rw [e3, e5, fill_at k2, fill_at k4, h0, h1]
    exact Prod.ext (BitVec.add_zero _) rfl
  have e1 := group_val g1 e0 (round_val (by decide) (by decide) · i) (round_val (by decide) (by decide) · i)
    (round_val (by decide) (by decide) · i) (round_val (by decide) (by decide) · i) (inject_val · i)
  have e2 := group_val g2 e1 (round_val (by decide) (by decide) · i) (round_val (by decide) (by decide) · i)
    (round_val (by decide) (by decide) · i) (round_val (by decide) (by decide) · i) (inject_val · i)
  have e3 := group_val g3 e2 (round_val (by decide) (by decide) · i) (round_val (by decide) (by decide) · i)
    (round_val (by decide) (by decide) · i) (round_val (by decide) (by decide) · i) (inject_val · i)
  have e4 := group_val g4 e3 (round_val (by decide) (by decide) · i) (round_val (by decide) (by decide) · i)
    (round_val (by decide) (by decide) · i) (round_val (by decide) (by decide) · i) (inject_val · i)
  have e5 := group_val g5 e4 (round_val (by decide) (by decide) · i) (round_val (by decide) (by decide) · i)
    (round_val (by decide) (by decide) · i) (round_val (by decide) (by decide) · i) (inject_val · i)
  rw [ek, h0, h1] at e5
  exact e5
end

end Cert.ReferenceIdeal.Run

end
-- ==== Proof.RefNoise.lean ====
/-
  The reference's noisy scores: its keys, counters, uniform numbers and Gumbel noise, at an entry.
-/
module

public import proofs.«01_k».proof.Proof.RefHash

@[expose] public section

noncomputable section

namespace Cert.ReferenceIdeal.Run

open Idealize.ShloMosaic Idealize.ShloMosaic.TcCoe Idealize.ShloMosaic.StableHlo Idealize.ShloMosaic.ValueIdx Idealize.SL.Sem
open Cert.ReferenceIdeal Cert.ReferenceIdeal.Gen Cert.Lines Cert.Spec

variable {W : Val}

/-- The number an array of floats holds at an entry. -/
def real {s : Shape} (W : Val) (x : TRef sig ⟨s, .f32⟩) (i : s.Idx) : EReal := get x W i

/-- An entry's number, computed in 64 bits, -/
theorem counter64 (R : Fin 64) (C : Fin 100000) :
    100000#64 * BitVec.ofNat 64 R.val + 1#64 * BitVec.ofNat 64 C.val = BitVec.ofNat 64 (100000 * R.val + C.val) := by
  rw [BitVec.ofNat_add, BitVec.ofNat_mul, BitVec.one_mul]

/-- of which the lower word is the number in 32 bits -/
theorem counter_lo (n : ℕ) : (BitVec.ofNat 64 n).setWidth 32 = BitVec.ofNat 32 n := by
  refine BitVec.eq_of_toNat_eq ?_
  rw [BitVec.toNat_setWidth, BitVec.toNat_ofNat, BitVec.toNat_ofNat]
  exact Nat.mod_mod_of_dvd n ⟨2 ^ 32, rfl⟩

/-- and the upper one 0. -/
theorem counter_hi (n : ℕ) (hn : n < 6400000) : (BitVec.ofNat 64 n >>> 32).setWidth 32 = 0#32 := by
  refine BitVec.eq_of_toNat_eq ?_
  rw [BitVec.toNat_setWidth, BitVec.toNat_ushiftRight, BitVec.toNat_ofNat, Nat.mod_eq_of_lt (by omega), Nat.shiftRight_eq_div_pow,
    Nat.div_eq_of_lt (by omega)]
  rfl

section
variable {arg0 : TRef sig ⟨S2, .i32⟩} {arg1 arg2 : TRef sig ⟨S_, .f32⟩} {φ : fn_uniform.Bufs}

/-- The counters. -/
theorem counter_val (h : All (uniformHead arg0 arg1 arg2 φ) W) (R : Fin 64) (C : Fin 100000) :
    word W φ.v17 (ix2 R C) = BitVec.ofNat 32 (100000 * R.val + C.val) ∧ word W φ.v18 (ix2 R C) = 0 := by
  simp only [All, uniformHead, List.forall_mem_cons] at h
  obtain ⟨-, -, -, -, -, -, -, -, h8, h9, hc, h10, h11, hc0, h12, h13, h14, hc1, h15, h16, h17, h18, -⟩ := h
  have e14 : (get φ.v14 W : IVec S64x100000 64) (ix2 R C) = BitVec.ofNat 64 (100000 * R.val + C.val) := by
    rw [h14, h11, h13, h10, h12, hc, hc0, h8, h9]
    exact counter64 R C
  have e17 : word W φ.v17 (ix2 R C) = ((get φ.v14 W : IVec S64x100000 64) (ix2 R C)).setWidth 32 :=
    congrFun (show get φ.v17 W = trunci 32 (get φ.v14 W) natLt_32_64 from h17) (ix2 R C)
  have e18 : word W φ.v18 (ix2 R C) = ((get φ.v16 W : IVec S64x100000 64) (ix2 R C)).setWidth 32 :=
    congrFun (show get φ.v18 W = trunci 32 (get φ.v16 W) natLt_32_64 from h18) (ix2 R C)
  have e16 : (get φ.v16 W : IVec S64x100000 64) (ix2 R C) = BitVec.ofNat 64 (100000 * R.val + C.val) >>> 32 := by
    have e : (get φ.v16 W : IVec S64x100000 64) (ix2 R C) = IntOp.shrui .host ((get φ.v14 W : IVec S64x100000 64) (ix2 R C)) 32#64 := by
      rw [h16, h15, hc1]
      rfl
    rw [e, e14]
    unfold IntOp.shrui
    rw [if_pos (by decide)]
    rfl
  rw [e17, e18, e14, e16]
  exact ⟨counter_lo _, counter_hi _ (by omega)⟩

/-- The keys. -/
theorem keys_val (h : All (uniformHead arg0 arg1 arg2 φ) W) :
    sword W φ.v5 = (get arg0 W : IVec S2 32) (ix1 0) ∧ sword W φ.v7 = (get arg0 W : IVec S2 32) (ix1 1) := by
  simp only [All, uniformHead, List.forall_mem_cons] at h
  obtain ⟨-, -, -, -, h4, h5, h6, h7, -⟩ := h
  have e (x : IVec S1 32) : shapeCast S_ x shapeCasts_S1_S_ ix0 = x (ix1 0) :=
    (shapeCast_dropUnit_apply ![] x shapeCasts_S1_S_ ix0).trans (congrArg x (eq_ix1 _))
  constructor
  · have e5 : sword W φ.v5 = shapeCast S_ (get φ.v4 W : IVec S1 32) shapeCasts_S1_S_ ix0 :=
      congrFun (show get φ.v5 W = shapeCast S_ (get φ.v4 W : IVec S1 32) shapeCasts_S1_S_ from h5) ix0
    rw [e5, e, h4]
    exact extractStridedSlice_apply _ _ _ _ (ix1 0) fun a => by match a with | ⟨0, _⟩ => rfl
  · have e7 : sword W φ.v7 = shapeCast S_ (get φ.v6 W : IVec S1 32) shapeCasts_S1_S_ ix0 :=
      congrFun (show get φ.v7 W = shapeCast S_ (get φ.v6 W : IVec S1 32) shapeCasts_S1_S_ from h7) ix0
    rw [e7, e, h6]
    exact extractStridedSlice_apply _ _ _ _ (ix1 1) fun a => by match a with | ⟨0, _⟩ => rfl

/-- The bounds of the uniform numbers. -/
theorem bounds_val (h : All (uniformHead arg0 arg1 arg2 φ) W) :
    (∀ j, real W φ.v2 j = real W arg1 ix0) ∧ ∀ j, real W φ.v3 j = real W arg2 ix0 := by
  simp only [All, uniformHead, List.forall_mem_cons] at h
  obtain ⟨h0, h1, h2, h3, -⟩ := h
  unfold real
  rw [h2, h3, h0, h1]
  exact ⟨fun j => broadcastInDim_apply _ _ _ j ix0 fun a => a.elim0, fun j => broadcastInDim_apply _ _ _ j ix0 fun a => a.elim0⟩

/-- The uniform numbers, from the random words. -/
theorem uniform_val (h : All (uniformTail φ) W) {lo hi : EReal} (hlo : ∀ j, real W φ.v2 j = lo) (hhi : ∀ j, real W φ.v3 j = hi)
    (i : S64x100000.Idx) :
    real W φ.v34 i = max lo (mant (word W φ.call0.v171 i ^^^ word W φ.call0.v175 i) * (hi - lo) + lo) := by
  simp only [All, uniformTail, List.forall_mem_cons] at h
  obtain ⟨h20, hc2, h21, h22, hc3, h23, h24, h25, hcst, h26, h27, h28, h29, h30, h31, h32, h33, h34, -⟩ := h
  have e20 : word W φ.v20 i = word W φ.call0.v171 i ^^^ word W φ.call0.v175 i :=
    congrFun (show get φ.v20 W = xori (get φ.call0.v171 W) (get φ.call0.v175 W) from h20) i
  have e22 : word W φ.v22 i = word W φ.v20 i >>> 9 := by
    have e : word W φ.v22 i = IntOp.shrui .host (word W φ.v20 i) (word W φ.v21 i) :=
      congrFun (show get φ.v22 W = Host.shrui (get φ.v20 W) (get φ.v21 W) from h22) i
    rw [e, fill_at h21, lit_at hc2]
    unfold IntOp.shrui
    rw [if_pos (by decide)]
    rfl
  have e24 : word W φ.v24 i = word W φ.v22 i ||| 1065353216#32 := by
    have e : word W φ.v24 i = word W φ.v22 i ||| word W φ.v23 i := congrFun (show get φ.v24 W = ori (get φ.v22 W) (get φ.v23 W) from h24) i
    rw [e, fill_at h23, lit_at hc3]
  have e27 : real W φ.v27 i = mant (word W φ.v20 i) := by
    have e25 : real W φ.v25 i = Ideal.ofBits .f32 (word W φ.v24 i) := by
      unfold real
      rw [h25]
      rfl
    have e26 : real W φ.v26 i = one := by
      unfold real
      rw [h26, hcst]
      rfl
    have e : real W φ.v27 i = real W φ.v25 i - real W φ.v26 i := by
      unfold real
      rw [h27]
      rfl
    rw [e, e25, e26, e24, e22]
    rfl
  have e29 : real W φ.v29 i = hi - lo := by
    have e (j : S1x1.Idx) : real W φ.v28 j = real W φ.v3 j - real W φ.v2 j := by
      unfold real
      rw [h28]
      rfl
    have e' : real W φ.v29 i = real W φ.v28 _ :=
      congrFun (show get φ.v29 W = broadcastInDim S64x100000 ![0, 1] bcast_S1x1_S64x100000_0_1 (get φ.v28 W) from h29) i
    rw [e', e, hlo, hhi]
  have e31 : real W φ.v31 i = lo :=
    (congrFun (show get φ.v31 W = broadcastInDim S64x100000 ![0, 1] bcast_S1x1_S64x100000_0_1 (get φ.v2 W) from h31) i).trans (hlo _)
  have e33 : real W φ.v33 i = lo :=
    (congrFun (show get φ.v33 W = broadcastInDim S64x100000 ![0, 1] bcast_S1x1_S64x100000_0_1 (get φ.v2 W) from h33) i).trans (hlo _)
  have e30 : real W φ.v30 i = real W φ.v27 i * real W φ.v29 i := by
    unfold real
    rw [h30]
    rfl
  have e32 : real W φ.v32 i = real W φ.v30 i + real W φ.v31 i := by
    unfold real
    rw [h32]
    rfl
  have e34 : real W φ.v34 i = max (real W φ.v33 i) (real W φ.v32 i) := by
    unfold real
    rw [h34]
    rfl
  rw [e34, e33, e32, e31, e30, e29, e27, e20]
end

/-- The key's two words. -/
theorem key_val (h : All main0 W) :
    (get (.of main_v8) W : IVec S2 32) (ix1 0) = 0 ∧ (get (.of main_v8) W : IVec S2 32) (ix1 1) = 42 := by
  simp only [All, main0, List.forall_mem_cons] at h
  obtain ⟨-, -, -, hc, hc0, h2, h3, h4, hc1, h5, h6, h7, h8, -⟩ := h
  rw [h8]
  constructor
  · refine (concatenate_pair_apply_left 0 _ _ concatenates_S1_S1_S2_d0 (ix1 0) rfl (ix1 0) fun b => ?_).trans ?_
    · match b with | ⟨0, _⟩ => rfl
    · rw [h4, h3, h2, hc, hc0]
      show IntOp.shrui .host 42#32 32#32 = 0
      decide
  · refine (concatenate_pair_apply_right 0 _ _ concatenates_S1_S1_S2_d0 (ix1 1) rfl rfl (ix1 0) (fun b hb => ?_) rfl).trans ?_
    · match b with | ⟨0, _⟩ => exact absurd rfl hb
    · rw [h7, h6, h5, hc, hc1]
      rfl

/-- The scores divided by the temperature are the scores. -/
theorem scaled_val (h : All main0 W) (i : S64x100000.Idx) : real W (.of main_v1) i = real W (.of main_arg1) i := by
  simp only [All, main0, List.forall_mem_cons] at h
  obtain ⟨hcst, h0, h1, -⟩ := h
  have e0 : real W (.of main_v0) i = 1 := by
    unfold real
    rw [h0, hcst]
    exact Ideal.ofBits_one_f32
  have e : real W (.of main_v1) i = Ideal.div (real W (.of main_arg1) i) (real W (.of main_v0) i) := by
    unfold real
    rw [h1]
    exact Ideal.hostDivf_def _ _
  rw [e, e0]
  unfold Ideal.div
  rw [if_neg one_ne_zero, inv_one, mul_one]

/-- The bounds are zero and one. -/
theorem limits_val (h : All main0 W) : real W (.of main_cst_2) ix0 = zero ∧ real W (.of main_cst_3) ix0 = one := by
  simp only [All, main0, List.forall_mem_cons] at h
  obtain ⟨-, -, -, -, -, -, -, -, -, -, -, -, -, h2, h3, -⟩ := h
  unfold real
  rw [h2, h3]
  exact ⟨rfl, rfl⟩

/-- The noise added to the scores, from the uniform numbers. -/
theorem gumbel_val (h : All main1 W) (i : S64x100000.Idx) :
    real W (.of main_v20) i
      = -Ideal.log (-Ideal.log (max tiny (real W (.of main_v9) i * one + tiny))) + real W (.of main_v1) i := by
  simp only [All, main1, List.forall_mem_cons] at h
  obtain ⟨c4, h10, h11, c5, h12, h13, c6, h14, h15, h16, h17, h18, h19, h20, -⟩ := h
  unfold real
  rw [h20, h19, h18, h17, h16, h15, h14, h13, h12, h11, h10, c4, c5, c6]
  rfl

/-- The reference's noisy scores. -/
theorem noisy_val (h0 : All main0 W) (h1 : All (uniformHead (.of main_v8) (.of main_cst_2) (.of main_cst_3) main_call0) W)
    (h2 : All (tfLines main_call0.v5 main_call0.v7 main_call0.v18 main_call0.v17 main_call0.call0) W)
    (h3 : All (uniformTail main_call0) W) (h4 : All main1 W) (R : Fin 64) (C : Fin 100000) :
    real W (.of main_v20) (ix2 R C) = noisyRow (fun c => real W (.of main_arg1) (ix2 R c)) R.val C := by
  have hk := keys_val h1
  have hk' := key_val h0
  have hb := bounds_val h1
  have hl := limits_val h0
  have hc := counter_val h1 R C
  have hp := cipher_val h2 (hk.1.trans hk'.1) (hk.2.trans hk'.2) (ix2 R C)
  rw [hc.1, hc.2] at hp
  have hw : word W main_call0.call0.v171 (ix2 R C) ^^^ word W main_call0.call0.v175 (ix2 R C) = Cert.Spec.hash (BitVec.ofNat 32 (100000 * R.val + C.val)) :=
    congrArg (fun p : BitVec 32 × BitVec 32 => p.1 ^^^ p.2) hp
  have hu := uniform_val h3 (fun j => (hb.1 j).trans hl.1) (fun j => (hb.2 j).trans hl.2) (ix2 R C)
  rw [hw] at hu
  rw [gumbel_val h4, scaled_val h0]
  have hu' : real W (.of main_v9) (ix2 R C) = _ := hu
  rw [hu', gum_ref, add_comm]
  rfl

end Cert.ReferenceIdeal.Run

end
-- ==== Proof.RefValue.lean ====
/-
  What the reference returns: the argmax of its noisy scores, the score there, and the masked scores.
-/
module

public import proofs.«01_k».proof.Proof.RefNoise
public import proofs.«01_k».proof.Proof.Best
public import Idealize.ShloMosaic.PureOps.Ideal.Laws

@[expose] public section

noncomputable section

namespace Cert.ReferenceIdeal.Run

open Idealize.ShloMosaic Idealize.ShloMosaic.TcCoe Idealize.ShloMosaic.StableHlo Idealize.ShloMosaic.ValueIdx Idealize.SL.Sem
open Cert.ReferenceIdeal Cert.ReferenceIdeal.Gen Cert.Lines Cert.Spec Cert.Best

variable {W : Val}

/-! ## The argmax -/

/-- The pair `p` beats `q`: a greater value, or the same at no greater an index. -/
def Beats (p q : EReal × BitVec 32) : Prop := q.1 < p.1 ∨ q.1 = p.1 ∧ p.2.toInt ≤ q.2.toInt

/-- The argmax's step keeps the better pair. -/
theorem reducer_eq (a b : EReal × BitVec 32) :
    reducer_argmax_f32_i32 (F := Ideal) a b = if b.1 < a.1 ∨ a.1 = b.1 ∧ a.2.toInt < b.2.toInt then a else b := by
  obtain ⟨x, i⟩ := a
  obtain ⟨y, j⟩ := b
  have e : reducer_argmax_f32_i32 (F := Ideal) (x, i) (y, j)
      = (Scalar.select (BitVec.ofBool (decide (y < x)) ||| BitVec.ofBool (decide (x ≠ x))) x y,
          Scalar.select ((BitVec.ofBool (decide (y < x)) ||| BitVec.ofBool (decide (x ≠ x)))
            ||| (BitVec.ofBool (decide (x = y)) &&& BitVec.ofBool (i.slt j))) i j) := rfl
  have hs : i.slt j = decide (i.toInt < j.toInt) := rfl
  rw [e, hs, decide_eq_false (fun h : x ≠ x => h rfl)]
  show _ = if y < x ∨ x = y ∧ i.toInt < j.toInt then (x, i) else (y, j)
  by_cases h1 : y < x
  · rw [decide_eq_true h1, if_pos (.inl h1)]
    by_cases h2 : x = y <;> by_cases h3 : i.toInt < j.toInt <;> simp [h2, h3, Scalar.select]
  · rw [decide_eq_false h1]
    by_cases h2 : x = y
    · by_cases h3 : i.toInt < j.toInt
      · rw [if_pos (.inr ⟨h2, h3⟩)]; simp [h2, h3, Scalar.select]
      · rw [if_neg (fun h => h.elim h1 fun h => h3 h.2)]; simp [h2, h3, Scalar.select]
    · rw [if_neg (fun h => h.elim h1 fun h => h2 h.1)]; simp [h2, Scalar.select]

/-- So it chooses. -/
theorem chooses_argmax : Chooses (fun p q => Beats p q) (reducer_argmax_f32_i32 (F := Ideal)) where
  refl _ := .inr ⟨rfl, le_rfl⟩
  trans _ _ _ h h' := by
    rcases h with h | ⟨h, hi⟩ <;> rcases h' with h' | ⟨h', hi'⟩
    · exact .inl (h'.trans h)
    · exact .inl (h' ▸ h)
    · exact .inl (h ▸ h')
    · exact .inr ⟨h'.trans h, hi.trans hi'⟩
  mem a b := by rw [reducer_eq]; split <;> simp
  left a b := by
    rw [reducer_eq]
    split
    · exact .inr ⟨rfl, le_rfl⟩
    · next h =>
      rcases lt_or_eq_of_le (not_lt.mp fun h' => h (.inl h')) with h' | h'
      · exact .inl h'
      · exact .inr ⟨h', not_lt.mp fun h'' => h (.inr ⟨h', h''⟩)⟩
  right a b := by
    rw [reducer_eq]
    split
    · next h => exact h.imp id fun h => ⟨h.1.symm, h.2.le⟩
    · exact .inr ⟨rfl, le_rfl⟩

/-- Reducing the columns keeps the row. -/
theorem drop_row (i : S64x100000.Idx) : reducesTo_S64x100000_S64_d1.drop i = ix1 (i 0) := by
  funext a
  match a with
  | ⟨0, _⟩ => exact Fin.ext (reducesTo_S64x100000_S64_d1.drop_apply_val_of_eq i 0 0 (by decide) (by decide))

/-- A small number read signed. -/
theorem toInt_col (n : Fin 100000) : (BitVec.ofNat 32 n.val).toInt = n.val := by
  rw [BitVec.toInt_eq_toNat_of_lt (by rw [BitVec.toNat_ofNat]; omega), BitVec.toNat_ofNat]
  omega

/-- The argmax of each row is the first column where the row is greatest. -/
theorem argmax_val {arg0 : TRef sig ⟨S64x100000, .f32⟩} {φ : fn_argmax.Bufs} (h : All (argmaxLines arg0 φ) W) (R : Fin 64) :
    ∃ J, IsArg (fun c => real W arg0 (ix2 R c)) J ∧ (get φ.v1_1 W : IVec S64 32) (ix1 R) = BitVec.ofNat 32 J.val := by
  simp only [All, argmaxLines, List.forall_mem_cons] at h
  obtain ⟨h0, hcst, hc, -, h1, -⟩ := h
  rw [h1, h0, hcst, hc, Ideal.argReduce_eq_reduce2]
  beta_reduce
  obtain ⟨hm, -, hl⟩ := reduce2_best chooses_argmax (get arg0 W) (iotaInDim S64x100000 32 1) (constant (F := Ideal) S_ .f32 0xFF800000#32)
    (constantI S_ 32 0#32) reducesTo_S64x100000_S64_d1 h_S_ (ix1 R)
  generalize Host.reduce2 (reducer_argmax_f32_i32 (F := Ideal)) (get arg0 W) (iotaInDim S64x100000 32 1)
    (constant (F := Ideal) S_ .f32 0xFF800000#32) (constantI S_ 32 0#32) reducesTo_S64x100000_S64_d1 h_S_ (ix1 R) = p at hm hl ⊢
  have hl' (c : Fin 100000) : Beats p (real W arg0 (ix2 R c), BitVec.ofNat 32 c.val) := hl (ix2 R c) (drop_row _)
  rcases hm with e | ⟨i, hi, e⟩
  · have e1 : p.1 = ⊥ := (congrArg Prod.fst e).trans ninf
    have e2 : p.2 = 0#32 := congrArg Prod.snd e
    have hb (c : Fin 100000) : real W arg0 (ix2 R c) = ⊥ := by
      rcases hl' c with h | h
      · rw [e1] at h; exact absurd h not_lt_bot
      · exact h.1.trans e1
    exact ⟨⟨0, by omega⟩, ⟨fun c => le_of_eq ((hb c).trans (hb _).symm), fun c _ => Fin.le_def.mpr (Nat.zero_le _)⟩, e2⟩
  · obtain ⟨a, J, rfl⟩ : ∃ (a : Fin 64) (J : Fin 100000), i = ix2 a J := ⟨i 0, i 1, eq_ix2 i⟩
    obtain rfl : a = R := congrFun ((drop_row (ix2 a J)).symm.trans hi) 0
    have e1 : p.1 = real W arg0 (ix2 a J) := congrArg Prod.fst e
    have e2 : p.2 = BitVec.ofNat 32 J.val := congrArg Prod.snd e
    have hle (c : Fin 100000) : real W arg0 (ix2 a c) ≤ real W arg0 (ix2 a J) := by
      rw [← e1]
      exact (hl' c).elim le_of_lt fun h => le_of_eq h.1
    refine ⟨J, ⟨hle, fun c hc => ?_⟩, e2⟩
    rcases hl' c with h | ⟨-, h⟩
    · rw [e1] at h
      exact absurd hc (ne_of_lt h)
    · rw [e2] at h
      have h' : (J.val : ℤ) ≤ c.val := by
        rw [← toInt_col c, ← toInt_col J]
        exact h
      exact Fin.le_def.mpr (Int.ofNat_le.mp h')

/-! ## The score at an index -/

/-- A row's entry, gathered. -/
theorem gather_val {α : Type} (x : S64x100000.Idx → α) (j : IVec S64x1x1 32) (R : Fin 64) (J : Fin 100000)
    (hj : j (ix3 R 0 0) = BitVec.ofNat 32 J.val) :
    Host.gather gather_S64x100000_S64x1x1_S64x1_n_1_0_0_1_2_11 x j (ix2 R 0) = x (ix2 R J) := by
  unfold Host.gather
  refine congrArg x (funext fun a => Fin.ext ?_)
  show gather_S64x100000_S64x1x1_S64x1_n_1_0_0_1_2_11.start (ix2 R 0) j a + gather_S64x100000_S64x1x1_S64x1_n_1_0_0_1_2_11.batchCoord (ix2 R 0) a
    + gather_S64x100000_S64x1x1_S64x1_n_1_0_0_1_2_11.offCoord (ix2 R 0) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S64x100000_S64x1x1_S64x1_n_1_0_0_1_2_11.operandBatchingDims from List.mem_singleton.mpr rfl),
      Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x100000_S64x1x1_S64x1_n_1_0_0_1_2_11.startIndexMap from List.mem_singleton.mpr rfl)]
    have hsi : gather_S64x100000_S64x1x1_S64x1_n_1_0_0_1_2_11.siIdx (ix2 R 0)
        ⟨List.idxOf (1 : Fin 2) gather_S64x100000_S64x1x1_S64x1_n_1_0_0_1_2_11.startIndexMap,
          List.idxOf_lt_length_iff.2 (List.mem_singleton.mpr rfl)⟩ = ix3 R 0 0 := by
      funext b
      refine Fin.ext ?_
      match b with
      | ⟨0, _⟩ => rfl
      | ⟨1, _⟩ => rfl
      | ⟨2, _⟩ => rfl
    refine (congrArg (fun k => min (j k).toInt.toNat (100000 - 1)) hsi).trans ?_
    show min (j (ix3 R 0 0)).toInt.toNat (100000 - 1) = J.val
    rw [hj, toInt_col]
    omega

/-- The conjunction of bits that are all set is set. -/
theorem foldl_and_one {ι : Type} (f : ι → BitVec 1) (hf : ∀ i, f i = 1#1) : ∀ l : List ι, l.foldl (fun r i => IntOp.andi r (f i)) 1#1 = 1#1
  | [] => rfl
  | i :: l => by
    rw [List.foldl_cons, hf i]
    exact foldl_and_one f hf l

/-- Where each index is a column, the entries taken are those of that column. -/
theorem take_val {arg0 : TRef sig ⟨S64x100000, .f32⟩} {arg1 : TRef sig ⟨S64x1, .i32⟩} {φ : fn_take_along_axis.Bufs}
    (h : All (takeLines arg0 arg1 φ) W) (J : Fin 64 → Fin 100000)
    (hJ : ∀ R, (get arg1 W : IVec S64x1 32) (ix2 R 0) = BitVec.ofNat 32 (J R).val) (R : Fin 64) :
    real W φ.v15 (ix2 R 0) = real W arg0 (ix2 R (J R)) := by
  simp only [All, takeLines, List.forall_mem_cons] at h
  obtain ⟨hc, h0, h1, hc0, h2, h3, h4, h5, hc1, hc2, h6, h7, h8, h9, h10, h11, hc3, h12, h13, hcst, h14, h15, -⟩ := h
  have e4 (R : Fin 64) : (get φ.v4 W : IVec S64x1 32) (ix2 R 0) = BitVec.ofNat 32 (J R).val := by
    have e1 : (get φ.v1 W : IVec S64x1 1) (ix2 R 0) = 0#1 := by
      have e : (get φ.v1 W : IVec S64x1 1) (ix2 R 0)
          = BitVec.ofBool (decide (((get arg1 W : IVec S64x1 32) (ix2 R 0)).toInt < (0#32).toInt)) := by
        rw [h1, h0, hc]
        rfl
      have hn : ¬((J R).val : ℤ) < (0#32).toInt := not_lt.mpr (Int.natCast_nonneg _)
      rw [e, hJ, toInt_col, decide_eq_false hn]
      rfl
    rw [h4, select_apply, e1, select_zero, hJ]
  have e5 (R : Fin 64) : (get φ.v5 W : IVec S64x1x1 32) (ix3 R 0 0) = BitVec.ofNat 32 (J R).val := by
    have e : get φ.v5 W = shapeCast S64x1x1 (get φ.v4 W : IVec S64x1 32) shapeCasts_S64x1_S64x1x1 := h5
    rw [e, ← e4 R]
    refine shapeCast_apply _ _ _ _ ?_
    rw [Shape.rowMajor_val_two, Shape.rowMajor_val_three]
    show R.val * 1 + 0 = (R.val * 1 + 0) * 1 + 0
    omega
  have e11 (i : S64x1x1.Idx) : (get φ.v11 W : IVec S64x1x1 1) i = 1#1 := by
    have hi : i = ix3 (i 0) 0 0 := by
      funext a
      match a with
      | ⟨0, _⟩ => rfl
      | ⟨1, _⟩ => exact Subsingleton.elim (α := Fin 1) _ _
      | ⟨2, _⟩ => exact Subsingleton.elim (α := Fin 1) _ _
    have e : (get φ.v11 W : IVec S64x1x1 1) i
        = BitVec.ofBool (decide ((0#32).toInt ≤ ((get φ.v5 W : IVec S64x1x1 32) i).toInt))
          &&& BitVec.ofBool (decide (((get φ.v5 W : IVec S64x1x1 32) i).toInt ≤ (99999#32).toInt)) := by
      rw [h11, h10, h7, h6, h9, h8, hc1, hc2]
      rfl
    have e5' := (congrArg (get φ.v5 W : IVec S64x1x1 32) hi).trans (e5 (i 0))
    have hn : (0#32).toInt ≤ ((J (i 0)).val : ℤ) := Int.natCast_nonneg _
    have hm : ((J (i 0)).val : ℤ) ≤ (99999#32).toInt := by
      show ((J (i 0)).val : ℤ) ≤ 99999
      have := (J (i 0)).isLt
      omega
    rw [e, e5', toInt_col, decide_eq_true hn, decide_eq_true hm]
    rfl
  have e12 : (get φ.v12 W : IVec S64x1 1) (ix2 R 0) = 1#1 := by
    rw [h12, Host.reduce_eq_foldl, hc3]
    exact foldl_and_one _ e11 _
  have e13 : real W φ.v13 (ix2 R 0) = real W arg0 (ix2 R (J R)) := by
    unfold real
    rw [h13]
    exact gather_val _ _ R (J R) (e5 R)
  have e15 : real W φ.v15 (ix2 R 0) = Scalar.select ((get φ.v12 W : IVec S64x1 1) (ix2 R 0)) (real W φ.v13 (ix2 R 0)) (real W φ.v14 (ix2 R 0)) := by
    unfold real
    rw [h15]
    rfl
  rw [e15, e12, select_one, e13]

/-! ## The result -/

/-- The reference returns each row masked at the sampled column's score. -/
theorem masked_val (h : All lines W) (R : Fin 64) :
    Masked (fun C => real W (.of main_arg1) (ix2 R C)) (fun C => real W (.of main_v26) (ix2 R C)) R.val := by
  simp only [All, lines, List.forall_mem_append] at h
  obtain ⟨h0, h1, h2, h3, h4, h5, h6, h7, h8, h9⟩ := h
  have hz (R : Fin 64) : (fun c => real W (.of main_v20) (ix2 R c)) = noisyRow (fun c => real W (.of main_arg1) (ix2 R c)) R.val :=
    funext fun C => noisy_val h0 h1 h2 h3 h4 R C
  have ha (R : Fin 64) := argmax_val h5 R
  simp only [hz] at ha
  choose J hJ hJ' using ha
  simp only [main2, List.forall_mem_cons] at h6
  have e22 (R : Fin 64) : (get (.of main_v22) W : IVec S64x1 32) (ix2 R 0) = BitVec.ofNat 32 (J R).val := by
    rw [← hJ' R, h6.1]
    exact broadcastInDim_apply _ _ _ _ (ix1 R) fun a => by match a with | ⟨0, _⟩ => rfl
  have e23 : real W (.of main_v23) (ix2 R 0) = real W (.of main_arg1) (ix2 R (J R)) := take_val h7 J e22 R
  simp only [main3, List.forall_mem_cons] at h8
  obtain ⟨h24, h25, hc7, -⟩ := h8
  simp only [whereLines, List.forall_mem_cons] at h9
  obtain ⟨w0, w1, w2, -⟩ := h9
  refine ⟨J R, hJ R, fun C => ?_⟩
  have e24 : real W (.of main_v24) (ix2 R C) = real W (.of main_v23) (ix2 R 0) := by
    unfold real
    rw [h24]
    exact broadcastInDim_apply _ _ _ _ (ix2 R 0) fun a => by
      match a with
      | ⟨0, _⟩ => rfl
      | ⟨1, _⟩ => rfl
  have e25 : (get (.of main_v25) W : IVec S64x100000 1) (ix2 R C)
      = BitVec.ofBool (decide (real W (.of main_arg1) (ix2 R C) < real W (.of main_v24) (ix2 R C))) := by
    rw [h25]
    rfl
  have e1 : real W main_call3.v1 (ix2 R C) = ⊥ := by
    unfold real
    rw [w1, w0, hc7]
    exact ninf
  have e26 : real W (.of main_v26) (ix2 R C)
      = Scalar.select ((get (.of main_v25) W : IVec S64x100000 1) (ix2 R C)) (real W main_call3.v1 (ix2 R C)) (real W (.of main_arg1) (ix2 R C)) :=
    congrFun w2 (ix2 R C)
  beta_reduce
  rw [e26, e25, e24, e23, e1]
  by_cases hc : real W (.of main_arg1) (ix2 R C) < real W (.of main_arg1) (ix2 R (J R))
  · rw [decide_eq_true hc]
    exact (if_pos hc).symm
  · rw [decide_eq_false hc]
    exact (if_neg hc).symm

end Cert.ReferenceIdeal.Run

end
-- ==== Proof.Equation.lean ====
/-
  The kernel and the reference return the same array.

  Both return each row of the scores masked at the score of the column the row's noisy scores sample; that
  determines the row.
-/
module

public import proofs.«01_k».proof.Proof.Array
public import proofs.«01_k».proof.Proof.RefValue

@[expose] public section

noncomputable section

namespace Cert.ReferenceIdeal.Run

open Idealize.ShloMosaic Idealize.ShloMosaic.TcCoe Idealize.ShloMosaic.StableHlo Idealize.ShloMosaic.ValueIdx Idealize.SL.Sem
open Cert.ReferenceIdeal Cert.ReferenceIdeal.Gen Cert.Lines Cert.Spec

section
variable {F : FTy → Type} [FloatOps F] (m : (ℓ : Loc nD τ sig) → Buf (Elt F) ℓ) (ρ : Dev nD → PrngReg)

/-- What the reference's buffers hold after the run. -/
def final (d : Dev nD) : Valuation τ sig (Elt F) := after (lines.map Line.op) (launchContents m d)

/-- The reference keeps its first argument, -/
theorem kept_arg0 (d : Dev nD) : final m d (Proc.devRef .tc main_arg0) = m ((d.tc : Thread nD τ).loc main_arg0) :=
  (after_low lines 2 lines_check _ main_arg0 (by decide)).trans (launchContents_devRef m d main_arg0)

/-- and its second. -/
theorem kept_arg1 (d : Dev nD) : final m d (Proc.devRef .tc main_arg1) = m ((d.tc : Thread nD τ).loc main_arg1) :=
  (after_low lines 2 lines_check _ main_arg1 (by decide)).trans (launchContents_devRef m d main_arg1)

/-- A run of the reference: its result, its arguments kept, and no semaphore left up. -/
theorem run_final : θ_run defs (onTc (τ := τ) (main (F := F))) ⟨m, fun _ => 0, ρ⟩ fun r =>
    (∀ d : Dev nD, r.2.mem ((d.tc : Thread nD τ).loc main_v26) = final m d (Proc.devRef .tc main_v26)
      ∧ r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0 :=
  (θ_run defs _ _).mono (fun r h => ⟨fun d => ⟨h d main_v26, (h d main_arg0).trans (kept_arg0 m d), (h d main_arg1).trans (kept_arg1 m d)⟩,
    sem_eq_zero_of_no_sems (by decide) r.2⟩) (run_lines m ρ)
end

/-- What the reference returns, as an array of extended reals. -/
def returned (m : (ℓ : Loc nD τ sig) → Buf (Elt Ideal) ℓ) (d : Dev nD) : S64x100000.Idx → EReal := final m d (Proc.devRef .tc main_v26)

/-- Its scores. -/
def given (m : (ℓ : Loc nD τ sig) → Buf (Elt Ideal) ℓ) (d : Dev nD) : S64x100000.Idx → EReal := m ((d.tc : Thread nD τ).loc main_arg1)

/-- Every row it returns is the row of its scores, masked. -/
theorem returned_masked (m : (ℓ : Loc nD τ sig) → Buf (Elt Ideal) ℓ) (d : Dev nD) (R : Fin 64) :
    Masked (fun C => given m d (ix2 R C)) (fun C => returned m d (ix2 R C)) R.val := by
  have h := masked_val (W := final m d) (lines_hold lines 2 lines_check (launchContents m d)) R
  have e : real (final m d) (.of main_arg1) = given m d := kept_arg1 m d
  rw [e] at h
  exact h

end Cert.ReferenceIdeal.Run

namespace Cert.Equation

open Idealize.ShloMosaic Idealize.ShloMosaic.TcCoe Idealize.ShloMosaic.ValueIdx Idealize.SL.Sem Cert.Spec

/-- From equal scores, equal results. -/
theorem returned_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Run.given m' c = Cert.KernelIdeal.Result.scores m c) :
    Cert.ReferenceIdeal.Run.returned m' c = Cert.KernelIdeal.Result.result m c := by
  funext i
  obtain ⟨R, C, rfl⟩ : ∃ (R : Fin 64) (C : Fin 100000), i = ix2 R C := ⟨i 0, i 1, eq_ix2 i⟩
  have hr := Cert.ReferenceIdeal.Run.returned_masked m' c R
  rw [h] at hr
  exact congrFun (hr.unique (Cert.KernelIdeal.Result.masked m c R)) C

end Cert.Equation

end
-- ==== Proof.lean ====
/-
  The claims about the sampling kernel and its reference, assembled from the modules of Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference, run from the same scores, return the same array. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Result.result m c, Cert.KernelIdeal.Value.run_blocks m g, ?_⟩
  refine (θ_run Cert.ReferenceIdeal.defs _ _).mono (fun r h c => ?_) (Cert.ReferenceIdeal.Run.run_final m' g')
  obtain ⟨hv, h0, h1⟩ := h.1 c
  exact ⟨hv.trans (Cert.Equation.returned_eq m m' c (hargs c).2), h0, h1⟩

/-- The claims: each program runs to its end and keeps its arguments, the kernel is printed unchanged, and it returns
    what the reference returns. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono (fun _ h => ⟨fun c => (h.1 c).2, h.2⟩) (Cert.ReferenceIdeal.Run.run_final m ρ),
  trivial,
  algebraic⟩

end Cert.Proof

end
